-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x256x65536 : Shape := ⟨3, ![4, 256, 65536]⟩
abbrev S4x65536x3 : Shape := ⟨3, ![4, 65536, 3]⟩
abbrev S2x4x65536x3 : Shape := ⟨4, ![2, 4, 65536, 3]⟩
abbrev S4x64x7 : Shape := ⟨3, ![4, 64, 7]⟩
abbrev S4x64 : Shape := ⟨2, ![4, 64]⟩
abbrev S128x256 : Shape := ⟨2, ![128, 256]⟩
abbrev S128 : Shape := ⟨1, ![128]⟩
abbrev S30x128 : Shape := ⟨2, ![30, 128]⟩
abbrev S30 : Shape := ⟨1, ![30]⟩
abbrev S3x128 : Shape := ⟨2, ![3, 128]⟩
abbrev S3 : Shape := ⟨1, ![3]⟩
abbrev S3x3 : Shape := ⟨2, ![3, 3]⟩
abbrev S_ : Shape := ⟨0, ![]⟩

class Facts : Prop where
  bcast_S_S4x256x65536 : S_.BroadcastsInDim S4x256x65536 (![] : Fin 0 → Fin S4x256x65536.rank)
  bcast_S_S128x256 : S_.BroadcastsInDim S128x256 (![] : Fin 0 → Fin S128x256.rank)
  bcast_S_S128 : S_.BroadcastsInDim S128 (![] : Fin 0 → Fin S128.rank)

variable [Facts]

def fn {F : FTy → Type} [FloatOps F] (main_arg0 : FVec F S4x256x65536 .f32) (main_arg1 : FVec F S4x65536x3 .f32) (main_arg2 : FVec F S4x65536x3 .f32) (main_arg3 : FVec F S2x4x65536x3 .f32) (main_arg4 : FVec F S4x64x7 .f32) (main_arg5 : IVec S4x64 32) (main_arg6 : FVec F S128x256 .f32) (main_arg7 : FVec F S128 .f32) (main_arg8 : FVec F S128 .f32) (main_arg9 : FVec F S128 .f32) (main_arg10 : FVec F S30x128 .f32) (main_arg11 : FVec F S30 .f32) (main_arg12 : FVec F S128x256 .f32) (main_arg13 : FVec F S128 .f32) (main_arg14 : FVec F S128 .f32) (main_arg15 : FVec F S128 .f32) (main_arg16 : FVec F S3x128 .f32) (main_arg17 : FVec F S3 .f32) (main_arg18 : FVec F S3x3 .f32) : IVec S4x256x65536 1 × IVec S128x256 1 × IVec S128 1 × IVec S128x256 1 × IVec S128 1 :=
  let main_v0 : FVec F S4x256x65536 .f32 := Host.absf main_arg0
  let main_cst : FVec F S_ .f32 := constant S_ .f32 0x7F800000#32
  let main_v1 : FVec F S4x256x65536 .f32 := broadcastInDim S4x256x65536 ![] bcast_S_S4x256x65536 main_cst
  let main_v2 : IVec S4x256x65536 1 := cmpf .olt main_v0 main_v1
  let main_v3 : FVec F S128x256 .f32 := Host.absf main_arg6
  let main_cst_0 : FVec F S_ .f32 := constant S_ .f32 0x7F800000#32
  let main_v4 : FVec F S128x256 .f32 := broadcastInDim S128x256 ![] bcast_S_S128x256 main_cst_0
  let main_v5 : IVec S128x256 1 := cmpf .olt main_v3 main_v4
  let main_v6 : FVec F S128 .f32 := Host.absf main_arg8
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S128x256 .f32 := Host.absf main_arg12
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_v12 : FVec F S128 .f32 := Host.absf main_arg14
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  (main_v2, main_v5, main_v8, main_v11, main_v14)
-- ==== Kernel.lean ====
abbrev S4x256x65536 : Shape := ⟨3, ![4, 256, 65536]⟩
abbrev S4x65536x3 : Shape := ⟨3, ![4, 65536, 3]⟩
abbrev S2x4x65536x3 : Shape := ⟨4, ![2, 4, 65536, 3]⟩
abbrev S4x64x7 : Shape := ⟨3, ![4, 64, 7]⟩
abbrev S4x64 : Shape := ⟨2, ![4, 64]⟩
abbrev S128x256 : Shape := ⟨2, ![128, 256]⟩
abbrev S128 : Shape := ⟨1, ![128]⟩
abbrev S30x128 : Shape := ⟨2, ![30, 128]⟩
abbrev S30 : Shape := ⟨1, ![30]⟩
abbrev S3x128 : Shape := ⟨2, ![3, 128]⟩
abbrev S3 : Shape := ⟨1, ![3]⟩
abbrev S3x3 : Shape := ⟨2, ![3, 3]⟩
abbrev S128x1 : Shape := ⟨2, ![128, 1]⟩
abbrev S256x256 : Shape := ⟨2, ![256, 256]⟩
abbrev S256 : Shape := ⟨1, ![256]⟩
abbrev S256x1 : Shape := ⟨2, ![256, 1]⟩
abbrev S4x3x65536 : Shape := ⟨3, ![4, 3, 65536]⟩
abbrev S30x1 : Shape := ⟨2, ![30, 1]⟩
abbrev S3x1 : Shape := ⟨2, ![3, 1]⟩
abbrev S4x30x65536 : Shape := ⟨3, ![4, 30, 65536]⟩
abbrev S4x7x65536 : Shape := ⟨3, ![4, 7, 65536]⟩
abbrev S1x256x16384 : Shape := ⟨3, ![1, 256, 16384]⟩
abbrev S1x3x16384 : Shape := ⟨3, ![1, 3, 16384]⟩
abbrev S1x30x16384 : Shape := ⟨3, ![1, 30, 16384]⟩
abbrev S1x7x16384 : Shape := ⟨3, ![1, 7, 16384]⟩
abbrev S256x16384 : Shape := ⟨2, ![256, 16384]⟩
abbrev S128x16384 : Shape := ⟨2, ![128, 16384]⟩
abbrev S30x16384 : Shape := ⟨2, ![30, 16384]⟩
abbrev S3x16384 : Shape := ⟨2, ![3, 16384]⟩
abbrev S1x16384 : Shape := ⟨2, ![1, 16384]⟩
abbrev S1x1 : Shape := ⟨2, ![1, 1]⟩
abbrev S12x16384 : Shape := ⟨2, ![12, 16384]⟩
abbrev S16384 : Shape := ⟨1, ![16384]⟩
abbrev S12x1 : Shape := ⟨2, ![12, 1]⟩
abbrev S7x16384 : Shape := ⟨2, ![7, 16384]⟩
abbrev S4x65536x30 : Shape := ⟨3, ![4, 65536, 30]⟩
abbrev S4x65536x7 : Shape := ⟨3, ![4, 65536, 7]⟩

abbrev nBuf : Space → Nat
  | .hbm => 41
  | .vmem => 16
  | .smem => 1
  | _ => 0

abbrev bufTy : (tb : Table) → Fin (tcTables nBuf tb) → BufTy
  | .hbm, ⟨0, _⟩ => ⟨S4x256x65536, .f32⟩
  | .hbm, ⟨1, _⟩ => ⟨S4x65536x3, .f32⟩
  | .hbm, ⟨2, _⟩ => ⟨S4x65536x3, .f32⟩
  | .hbm, ⟨3, _⟩ => ⟨S2x4x65536x3, .f32⟩
  | .hbm, ⟨4, _⟩ => ⟨S4x64x7, .f32⟩
  | .hbm, ⟨5, _⟩ => ⟨S4x64, .i32⟩
  | .hbm, ⟨6, _⟩ => ⟨S128x256, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S30x128, .f32⟩
  | .hbm, ⟨11, _⟩ => ⟨S30, .f32⟩
  | .hbm, ⟨12, _⟩ => ⟨S128x256, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S3x128, .f32⟩
  | .hbm, ⟨17, _⟩ => ⟨S3, .f32⟩
  | .hbm, ⟨18, _⟩ => ⟨S3x3, .f32⟩
  | .hbm, ⟨19, _⟩ => ⟨S128x1, .f32⟩
  | .hbm, ⟨20, _⟩ => ⟨S128x256, .f32⟩
  | .hbm, ⟨21, _⟩ => ⟨S128x256, .f32⟩
  | .hbm, ⟨22, _⟩ => ⟨S128x1, .f32⟩
  | .hbm, ⟨23, _⟩ => ⟨S128x256, .f32⟩
  | .hbm, ⟨24, _⟩ => ⟨S128x256, .f32⟩
  | .hbm, ⟨25, _⟩ => ⟨S256x256, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S256, .f32⟩
  | .hbm, ⟨31, _⟩ => ⟨S256x1, .f32⟩
  | .hbm, ⟨32, _⟩ => ⟨S4x3x65536, .f32⟩
  | .hbm, ⟨33, _⟩ => ⟨S30x1, .f32⟩
  | .hbm, ⟨34, _⟩ => ⟨S3x1, .f32⟩
  | .hbm, ⟨35, _⟩ => ⟨S4x30x65536, .f32⟩
  | .hbm, ⟨36, _⟩ => ⟨S4x3x65536, .f32⟩
  | .hbm, ⟨37, _⟩ => ⟨S4x7x65536, .f32⟩
  | .hbm, ⟨38, _⟩ => ⟨S4x65536x30, .f32⟩
  | .hbm, ⟨39, _⟩ => ⟨S4x65536x3, .f32⟩
  | .hbm, ⟨40, _⟩ => ⟨S4x65536x7, .f32⟩
  | .local _ .vmem, ⟨0, _⟩ => ⟨S1x256x16384, .f32⟩
  | .local _ .vmem, ⟨1, _⟩ => ⟨S1x256x16384, .f32⟩
  | .local _ .vmem, ⟨2, _⟩ => ⟨S1x3x16384, .f32⟩
  | .local _ .vmem, ⟨3, _⟩ => ⟨S1x3x16384, .f32⟩
  | .local _ .vmem, ⟨4, _⟩ => ⟨S256x256, .f32⟩
  | .local _ .vmem, ⟨5, _⟩ => ⟨S256x1, .f32⟩
  | .local _ .vmem, ⟨6, _⟩ => ⟨S30x128, .f32⟩
  | .local _ .vmem, ⟨7, _⟩ => ⟨S30x1, .f32⟩
  | .local _ .vmem, ⟨8, _⟩ => ⟨S3x128, .f32⟩
  | .local _ .vmem, ⟨9, _⟩ => ⟨S3x1, .f32⟩
  | .local _ .vmem, ⟨10, _⟩ => ⟨S1x30x16384, .f32⟩
  | .local _ .vmem, ⟨11, _⟩ => ⟨S1x30x16384, .f32⟩
  | .local _ .vmem, ⟨12, _⟩ => ⟨S1x3x16384, .f32⟩
  | .local _ .vmem, ⟨13, _⟩ => ⟨S1x3x16384, .f32⟩
  | .local _ .vmem, ⟨14, _⟩ => ⟨S1x7x16384, .f32⟩
  | .local _ .vmem, ⟨15, _⟩ => ⟨S1x7x16384, .f32⟩
  | .local _ .smem, ⟨0, _⟩ => ⟨S3x3, .f32⟩
  | _, _ => ⟨S4x256x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16_0 : Ref sig .tc := ⟨.hbm, 35, rfl⟩
abbrev main_v16_1 : Ref sig .tc := ⟨.hbm, 36, rfl⟩
abbrev main_v16_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S3x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S30x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S30x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x30x16384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x3x16384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x7x16384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4x256x65536 : Shape := ⟨3, ![4, 256, 65536]⟩
abbrev S4x65536x3 : Shape := ⟨3, ![4, 65536, 3]⟩
abbrev S2x4x65536x3 : Shape := ⟨4, ![2, 4, 65536, 3]⟩
abbrev S4x64x7 : Shape := ⟨3, ![4, 64, 7]⟩
abbrev S4x64 : Shape := ⟨2, ![4, 64]⟩
abbrev S128x256 : Shape := ⟨2, ![128, 256]⟩
abbrev S128 : Shape := ⟨1, ![128]⟩
abbrev S30x128 : Shape := ⟨2, ![30, 128]⟩
abbrev S30 : Shape := ⟨1, ![30]⟩
abbrev S3x128 : Shape := ⟨2, ![3, 128]⟩
abbrev S3 : Shape := ⟨1, ![3]⟩
abbrev S3x3 : Shape := ⟨2, ![3, 3]⟩
abbrev S4x65536x128 : Shape := ⟨3, ![4, 65536, 128]⟩
abbrev S4x128x65536 : Shape := ⟨3, ![4, 128, 65536]⟩
abbrev S1x128x1 : Shape := ⟨3, ![1, 128, 1]⟩
abbrev S_ : Shape := ⟨0, ![]⟩
abbrev S4x65536x30 : Shape := ⟨3, ![4, 65536, 30]⟩
abbrev S4x30x65536 : Shape := ⟨3, ![4, 30, 65536]⟩
abbrev S1x30x1 : Shape := ⟨3, ![1, 30, 1]⟩
abbrev S4x3x65536 : Shape := ⟨3, ![4, 3, 65536]⟩
abbrev S1x3x1 : Shape := ⟨3, ![1, 3, 1]⟩
abbrev S4x65536 : Shape := ⟨2, ![4, 65536]⟩
abbrev S4x65536x1 : Shape := ⟨3, ![4, 65536, 1]⟩
abbrev S4x65536x12 : Shape := ⟨3, ![4, 65536, 12]⟩
abbrev S4x65536x1x1 : Shape := ⟨4, ![4, 65536, 1, 1]⟩
abbrev S1 : Shape := ⟨1, ![1]⟩
abbrev S1x1x1x1 : Shape := ⟨4, ![1, 1, 1, 1]⟩
abbrev S4x65536x7 : Shape := ⟨3, ![4, 65536, 7]⟩

abbrev nBuf : Space → Nat
  | .hbm => 157
  | .vmem => 0
  | .smem => 0
  | _ => 0

abbrev hbmTy0_0 (i : Nat) : BufTy := match i % 128 with
  | 0 => ⟨S4x256x65536, .f32⟩
  | 1 => ⟨S4x65536x3, .f32⟩
  | 2 => ⟨S4x65536x3, .f32⟩
  | 3 => ⟨S2x4x65536x3, .f32⟩
  | 4 => ⟨S4x64x7, .f32⟩
  | 5 => ⟨S4x64, .i32⟩
  | 6 => ⟨S128x256, .f32⟩
  | 7 => ⟨S128, .f32⟩
  | 8 => ⟨S128, .f32⟩
  | 9 => ⟨S128, .f32⟩
  | 10 => ⟨S30x128, .f32⟩
  | 11 => ⟨S30, .f32⟩
  | 12 => ⟨S128x256, .f32⟩
  | 13 => ⟨S128, .f32⟩
  | 14 => ⟨S128, .f32⟩
  | 15 => ⟨S128, .f32⟩
  | 16 => ⟨S3x128, .f32⟩
  | 17 => ⟨S3, .f32⟩
  | 18 => ⟨S3x3, .f32⟩
  | 19 => ⟨S4x65536x128, .f32⟩
  | 20 => ⟨S4x128x65536, .f32⟩
  | 21 => ⟨S1x128x1, .f32⟩
  | 22 => ⟨S4x128x65536, .f32⟩
  | 23 => ⟨S4x128x65536, .f32⟩
  | 24 => ⟨S1x128x1, .f32⟩
  | 25 => ⟨S4x128x65536, .f32⟩
  | 26 => ⟨S4x128x65536, .f32⟩
  | 27 => ⟨S1x128x1, .f32⟩
  | 28 => ⟨S4x128x65536, .f32⟩
  | 29 => ⟨S4x128x65536, .f32⟩
  | 30 => ⟨S_, .f32⟩
  | 31 => ⟨S4x128x65536, .f32⟩
  | 32 => ⟨S4x128x65536, .f32⟩
  | 33 => ⟨S4x65536x30, .f32⟩
  | 34 => ⟨S4x30x65536, .f32⟩
  | 35 => ⟨S1x30x1, .f32⟩
  | 36 => ⟨S4x30x65536, .f32⟩
  | 37 => ⟨S4x30x65536, .f32⟩
  | 38 => ⟨S4x65536x30, .f32⟩
  | 39 => ⟨S4x65536x128, .f32⟩
  | 40 => ⟨S4x128x65536, .f32⟩
  | 41 => ⟨S1x128x1, .f32⟩
  | 42 => ⟨S4x128x65536, .f32⟩
  | 43 => ⟨S4x128x65536, .f32⟩
  | 44 => ⟨S1x128x1, .f32⟩
  | 45 => ⟨S4x128x65536, .f32⟩
  | 46 => ⟨S4x128x65536, .f32⟩
  | 47 => ⟨S1x128x1, .f32⟩
  | 48 => ⟨S4x128x65536, .f32⟩
  | 49 => ⟨S4x128x65536, .f32⟩
  | 50 => ⟨S_, .f32⟩
  | 51 => ⟨S4x128x65536, .f32⟩
  | 52 => ⟨S4x128x65536, .f32⟩
  | 53 => ⟨S4x65536x3, .f32⟩
  | 54 => ⟨S4x3x65536, .f32⟩
  | 55 => ⟨S1x3x1, .f32⟩
  | 56 => ⟨S4x3x65536, .f32⟩
  | 57 => ⟨S4x3x65536, .f32⟩
  | 58 => ⟨S4x65536x3, .f32⟩
  | 59 => ⟨S4x65536x3, .i32⟩
  | 60 => ⟨S_, .f32⟩
  | 61 => ⟨S_, .i32⟩
  | 62 => ⟨S4x65536, .f32⟩
  | 63 => ⟨S4x65536, .i32⟩
  | 64 => ⟨S4x65536x1, .f32⟩
  | 65 => ⟨S4x65536, .f32⟩
  | 66 => ⟨S4x65536x1, .f32⟩
  | 67 => ⟨S4x65536, .f32⟩
  | 68 => ⟨S4x65536x1, .f32⟩
  | 69 => ⟨S4x65536, .f32⟩
  | 70 => ⟨S4x65536x1, .f32⟩
  | 71 => ⟨S4x65536, .f32⟩
  | 72 => ⟨S4x65536x1, .f32⟩
  | 73 => ⟨S4x65536, .f32⟩
  | 74 => ⟨S4x65536x1, .f32⟩
  | 75 => ⟨S4x65536, .f32⟩
  | 76 => ⟨S4x65536x1, .f32⟩
  | 77 => ⟨S4x65536, .f32⟩
  | 78 => ⟨S4x65536x1, .f32⟩
  | 79 => ⟨S4x65536, .f32⟩
  | 80 => ⟨S4x65536x1, .f32⟩
  | 81 => ⟨S4x65536, .f32⟩
  | 82 => ⟨S_, .i32⟩
  | 83 => ⟨S4x65536, .i32⟩
  | 84 => ⟨S4x65536, .i1⟩
  | 85 => ⟨S_, .i32⟩
  | 86 => ⟨S4x65536, .i32⟩
  | 87 => ⟨S4x65536, .i32⟩
  | 88 => ⟨S4x65536, .i32⟩
  | 89 => ⟨S4x65536x1, .i32⟩
  | 90 => ⟨S4x65536x3, .f32⟩
  | 91 => ⟨S4x65536x1, .f32⟩
  | 92 => ⟨S4x65536, .f32⟩
  | 93 => ⟨S4x65536x1, .f32⟩
  | 94 => ⟨S4x65536, .f32⟩
  | 95 => ⟨S4x65536x1, .f32⟩
  | 96 => ⟨S4x65536, .f32⟩
  | 97 => ⟨S4x65536, .f32⟩
  | 98 => ⟨S4x65536, .f32⟩
  | 99 => ⟨S4x65536, .f32⟩
  | 100 => ⟨S4x65536, .f32⟩
  | 101 => ⟨S4x65536, .f32⟩
  | 102 => ⟨S4x65536, .f32⟩
  | 103 => ⟨S4x65536, .f32⟩
  | 104 => ⟨S4x65536, .f32⟩
  | 105 => ⟨S4x65536, .f32⟩
  | 106 => ⟨S4x65536, .f32⟩
  | 107 => ⟨S4x65536, .f32⟩
  | 108 => ⟨S4x65536, .f32⟩
  | 109 => ⟨S4x65536, .f32⟩
  | 110 => ⟨S4x65536, .f32⟩
  | 111 => ⟨S4x65536, .f32⟩
  | 112 => ⟨S4x65536, .f32⟩
  | 113 => ⟨S4x65536x12, .f32⟩
  | 114 => ⟨S4x65536x12, .i32⟩
  | 115 => ⟨S_, .f32⟩
  | 116 => ⟨S_, .i32⟩
  | 117 => ⟨S4x65536, .f32⟩
  | 118 => ⟨S4x65536, .i32⟩
  | 119 => ⟨S4x65536x12, .f32⟩
  | 120 => ⟨S4x65536x1, .i32⟩
  | 121 => ⟨S_, .i32⟩
  | 122 => ⟨S4x65536x1, .i32⟩
  | 123 => ⟨S4x65536x1, .i1⟩
  | 124 => ⟨S_, .i32⟩
  | 125 => ⟨S4x65536x1, .i32⟩
  | 126 => ⟨S4x65536x1, .i32⟩
  | 127 => ⟨S4x65536x1, .i32⟩
  | _ => ⟨S4x256x65536, .f32⟩

abbrev hbmTy0_1 (i : Nat) : BufTy := match i % 128 with
  | 0 => ⟨S4x65536x1x1, .i32⟩
  | 1 => ⟨S1, .i32⟩
  | 2 => ⟨S_, .i32⟩
  | 3 => ⟨S4x65536x1x1, .i32⟩
  | 4 => ⟨S4x65536x1x1, .i1⟩
  | 5 => ⟨S1x1x1x1, .i32⟩
  | 6 => ⟨S4x65536x1x1, .i32⟩
  | 7 => ⟨S4x65536x1x1, .i1⟩
  | 8 => ⟨S4x65536x1x1, .i1⟩
  | 9 => ⟨S_, .i1⟩
  | 10 => ⟨S4x65536x1, .i1⟩
  | 11 => ⟨S4x65536x1, .f32⟩
  | 12 => ⟨S_, .f32⟩
  | 13 => ⟨S4x65536x1, .f32⟩
  | 14 => ⟨S4x65536x1, .f32⟩
  | 15 => ⟨S4x65536, .f32⟩
  | 16 => ⟨S4x65536, .f32⟩
  | 17 => ⟨S_, .f32⟩
  | 18 => ⟨S4x65536, .f32⟩
  | 19 => ⟨S4x65536, .f32⟩
  | 20 => ⟨S4x65536, .f32⟩
  | 21 => ⟨S4x65536x1, .f32⟩
  | 22 => ⟨S4x65536x1, .f32⟩
  | 23 => ⟨S4x65536x1, .f32⟩
  | 24 => ⟨S4x65536x1, .f32⟩
  | 25 => ⟨S4x65536x1, .f32⟩
  | 26 => ⟨S4x65536x1, .f32⟩
  | 27 => ⟨S4x65536x1, .f32⟩
  | 28 => ⟨S4x65536x7, .f32⟩
  | _ => ⟨S4x256x65536, .f32⟩

abbrev hbmTy (i : Nat) : BufTy := match i / 128 with
  | 0 => hbmTy0_0 i
  | 1 => hbmTy0_1 i
  | _ => ⟨S4x256x65536, .f32⟩

abbrev bufTy : (tb : Table) → Fin (tcTables nBuf tb) → BufTy
  | .hbm, ⟨i, _⟩ => hbmTy i
  | _, _ => ⟨S4x256x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call0_cst : Ref sig .tc := ⟨.hbm, 30, rfl⟩
abbrev main_call0_v0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call1_cst : Ref sig .tc := ⟨.hbm, 50, rfl⟩
abbrev main_call1_v0 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call2_v0 : Ref sig .tc := ⟨.hbm, 59, rfl⟩
abbrev main_call2_cst : Ref sig .tc := ⟨.hbm, 60, rfl⟩
abbrev main_call2_c : Ref sig .tc := ⟨.hbm, 61, rfl⟩
abbrev main_call2_v1_0 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c : Ref sig .tc := ⟨.hbm, 82, rfl⟩
abbrev main_v55 : Ref sig .tc := ⟨.hbm, 83, rfl⟩
abbrev main_v56 : Ref sig .tc := ⟨.hbm, 84, rfl⟩
abbrev main_c_0 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_call3_v0 : Ref sig .tc := ⟨.hbm, 114, rfl⟩
abbrev main_call3_cst : Ref sig .tc := ⟨.hbm, 115, rfl⟩
abbrev main_call3_c : Ref sig .tc := ⟨.hbm, 116, rfl⟩
abbrev main_call3_v1_0 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_call4_c : Ref sig .tc := ⟨.hbm, 121, rfl⟩
abbrev main_call4_v0 : Ref sig .tc := ⟨.hbm, 122, rfl⟩
abbrev main_call4_v1 : Ref sig .tc := ⟨.hbm, 123, rfl⟩
abbrev main_call4_c_0 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_call4_v5 : Ref sig .tc := ⟨.hbm, 128, rfl⟩
abbrev main_call4_c_1 : Ref sig .tc := ⟨.hbm, 129, rfl⟩
abbrev main_call4_c_2 : Ref sig .tc := ⟨.hbm, 130, rfl⟩
abbrev main_call4_v6 : Ref sig .tc := ⟨.hbm, 131, rfl⟩
abbrev main_call4_v7 : Ref sig .tc := ⟨.hbm, 132, rfl⟩
abbrev main_call4_v8 : Ref sig .tc := ⟨.hbm, 133, rfl⟩
abbrev main_call4_v9 : Ref sig .tc := ⟨.hbm, 134, rfl⟩
abbrev main_call4_v10 : Ref sig .tc := ⟨.hbm, 135, rfl⟩
abbrev main_call4_v11 : Ref sig .tc := ⟨.hbm, 136, rfl⟩
abbrev main_call4_c_3 : Ref sig .tc := ⟨.hbm, 137, rfl⟩
abbrev main_call4_v12 : Ref sig .tc := ⟨.hbm, 138, rfl⟩
abbrev main_call4_v13 : Ref sig .tc := ⟨.hbm, 139, rfl⟩
abbrev main_call4_cst : Ref sig .tc := ⟨.hbm, 140, rfl⟩
abbrev main_call4_v14 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_cst : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩

abbrev nD : Nat := 1
abbrev τ : Topo := Topo.v7x

variable {F : FTy → Type} [FloatOps F]
-- ==== Proof.Argmax.lean ====
/- The place of the first largest entry of a finite family, and the ways a program computes it: the fold of
   (value, index) pairs, and the least index among the entries not below the maximum. -/
module

public import Idealize.ShloMosaic.PureOps.Ideal
public import Idealize.ShloMosaic.PureOps.Reduce

@[expose] public section

noncomputable section

namespace Cert.Argmax

open Idealize.ShloMosaic

variable {n : ℕ}

/-- `i` is the place of the first largest entry of `u`. -/
def IsFirstMax (u : Fin n → EReal) (i : Fin n) : Prop := (∀ j, u j ≤ u i) ∧ ∀ j, j < i → u j < u i

/-- There is only one such place. -/
theorem IsFirstMax.unique {u : Fin n → EReal} {i j : Fin n} (hi : IsFirstMax u i) (hj : IsFirstMax u j) : i = j := by
  rcases lt_trichotomy i j with h | h | h
  · exact absurd (hj.2 i h) (not_lt.mpr (hi.1 j))
  · exact h
  · exact absurd (hi.2 j h) (not_lt.mpr (hj.1 i))

/-- A nonempty family has one. -/
theorem exists_isFirstMax [NeZero n] (u : Fin n → EReal) : ∃ i, IsFirstMax u i := by
  classical
  obtain ⟨m, hm⟩ := Finite.exists_max u
  obtain ⟨i, hi, hle⟩ := Finset.exists_min_image (Finset.univ.filter fun i => u m ≤ u i) id
    ⟨m, by simp⟩
  have hi' : u m ≤ u i := (Finset.mem_filter.mp hi).2
  refine ⟨i, fun j => (hm j).trans hi', fun j hj => lt_of_not_ge fun h => ?_⟩
  exact absurd hj (not_lt.mpr (hle j (Finset.mem_filter.mpr ⟨Finset.mem_univ _, hi'.trans h⟩)))

/-- The place of the first largest entry. -/
def firstMax [NeZero n] (u : Fin n → EReal) : Fin n := Classical.choose (exists_isFirstMax u)

theorem firstMax_spec [NeZero n] (u : Fin n → EReal) : IsFirstMax u (firstMax u) :=
  Classical.choose_spec (exists_isFirstMax u)

theorem firstMax_eq [NeZero n] {u : Fin n → EReal} {i : Fin n} (h : IsFirstMax u i) : firstMax u = i :=
  (firstMax_spec u).unique h

/-! ## The fold of pairs -/

/-- One step of the fold: the larger value stays, on a tie the smaller index. -/
def step (a b : EReal × BitVec 32) : EReal × BitVec 32 :=
  (if b.1 < a.1 then a.1 else b.1, if b.1 < a.1 ∨ (a.1 = b.1 ∧ a.2.toInt < b.2.toInt) then a.2 else b.2)

/-- What the fold holds after the entries `S`: the largest value so far at its smallest index. -/
structure Inv {ι : Type} (x : ι → EReal) (g : ι → BitVec 32) (z : BitVec 32) (S : List ι)
    (r : EReal × BitVec 32) : Prop where
  le : ∀ m ∈ S, x m ≤ r.1
  src : r = (⊥, z) ∨ ∃ m ∈ S, r = (x m, g m)
  first : ∀ m ∈ S, x m = r.1 → r.2.toInt ≤ (g m).toInt

theorem Inv.step {ι : Type} {x : ι → EReal} {g : ι → BitVec 32} {z : BitVec 32} {S : List ι}
    {r : EReal × BitVec 32} (h : Inv x g z S r) (e : ι) : Inv x g z (S ++ [e]) (step r (x e, g e)) := by
  have hmem : ∀ {m}, m ∈ S ++ [e] → m ∈ S ∨ m = e := fun hm => by simpa using hm
  obtain ⟨r1, r2⟩ := r
  obtain ⟨hle, hsrc, hfirst⟩ := h
  dsimp only at hle hfirst
  have hkeep : ∀ {q}, ((r1, r2) = (⊥, z) ∨ ∃ m ∈ S, (r1, r2) = (x m, g m)) → q = (r1, r2) →
      (q = (⊥, z) ∨ ∃ m ∈ S ++ [e], q = (x m, g m)) := by
    rintro q (h | ⟨m, hm, h⟩) rfl
    · exact .inl h
    · exact .inr ⟨m, by simp [hm], h⟩
  unfold Argmax.step
  dsimp only
  rcases lt_trichotomy (x e) r1 with hlt | heq | hgt
  · rw [if_pos hlt, if_pos (.inl hlt)]
    refine ⟨fun m hm => ?_, hkeep hsrc rfl, fun m hm hx => ?_⟩
    · rcases hmem hm with hm | rfl
      · exact hle m hm
      · exact hlt.le
    · rcases hmem hm with hm | rfl
      · exact hfirst m hm hx
      · exact absurd hx hlt.ne
  · rw [if_neg (by simp [heq])]
    by_cases hi : r2.toInt < (g e).toInt
    · rw [if_pos (.inr ⟨heq.symm, hi⟩)]
      refine ⟨fun m hm => ?_, hkeep hsrc (by rw [heq]), fun m hm hx => ?_⟩
      · rcases hmem hm with hm | rfl
        · exact (hle m hm).trans heq.ge
        · exact le_rfl
      · rcases hmem hm with hm | rfl
        · exact hfirst m hm (hx.trans heq)
        · exact hi.le
    · rw [if_neg (by rintro (h | h); exacts [absurd h (by simp [heq]), hi h.2])]
      refine ⟨fun m hm => ?_, .inr ⟨e, by simp, rfl⟩, fun m hm hx => ?_⟩
      · rcases hmem hm with hm | rfl
        · exact (hle m hm).trans heq.ge
        · exact le_rfl
      · rcases hmem hm with hm | rfl
        · exact (not_lt.mp hi).trans (hfirst m hm (hx.trans heq))
        · exact le_rfl
  · rw [if_neg (not_lt.mpr hgt.le), if_neg (by rintro (h | h); exacts [absurd h (not_lt.mpr hgt.le), hgt.ne h.1])]
    refine ⟨fun m hm => ?_, .inr ⟨e, by simp, rfl⟩, fun m hm hx => ?_⟩
    · rcases hmem hm with hm | rfl
      · exact (hle m hm).trans hgt.le
      · exact le_rfl
    · rcases hmem hm with hm | rfl
      · exact absurd ((hle m hm).trans_lt hgt) (by rw [hx]; exact lt_irrefl _)
      · exact le_rfl

theorem Inv.foldl {ι : Type} {x : ι → EReal} {g : ι → BitVec 32} {z : BitVec 32} (T : List ι) :
    ∀ {S : List ι} {r : EReal × BitVec 32}, Inv x g z S r →
      Inv x g z (S ++ T) (T.foldl (fun r e => Argmax.step r (x e, g e)) r) := by
  induction T with
  | nil => intro S r h; simpa using h
  | cons e T ih => intro S r h; simpa using ih (h.step e)

theorem toInt_ofNat_of_lt {k : ℕ} (h : k < 2147483648) : (BitVec.ofNat 32 k).toInt = k := by
  rw [BitVec.toInt_eq_toNat_of_lt] <;> simp only [BitVec.toNat_ofNat] <;> omega

/-- The fold from the bottom pair over a list whose members are read as the whole family ends at the place of
    the first largest entry. -/
theorem foldl_eq_firstMax {ι : Type} [NeZero n] (hn : n < 2147483648) (u : Fin n → EReal) (T : List ι)
    (x : ι → EReal) (g : ι → BitVec 32) (κ : Fin n → ι) (hκ : ∀ k, κ k ∈ T) (hT : ∀ e ∈ T, ∃ k, κ k = e)
    (hx : ∀ k, x (κ k) = u k) (hg : ∀ k, g (κ k) = BitVec.ofNat 32 k.val) :
    (T.foldl (fun r e => step r (x e, g e)) (⊥, 0#32)).2 = BitVec.ofNat 32 (firstMax u).val := by
  have h := Inv.foldl (x := x) (g := g) (z := 0#32) T (S := []) (r := (⊥, 0#32))
    ⟨by simp, .inl rfl, by simp⟩
  rw [List.nil_append] at h
  generalize T.foldl (fun r e => step r (x e, g e)) (⊥, 0#32) = r at h ⊢
  obtain ⟨hle, hsrc, hfirst⟩ := h
  rcases hsrc with rfl | ⟨m, hm, rfl⟩
  · have hbot : ∀ k, u k = ⊥ := fun k => le_bot_iff.mp (by rw [← hx k]; exact hle _ (hκ k))
    have h0 : firstMax u = 0 := firstMax_eq ⟨fun j => by rw [hbot, hbot], fun j hj => absurd hj (Fin.not_lt_zero j)⟩
    rw [h0]; rfl
  · obtain ⟨k, rfl⟩ := hT m hm
    have hk : firstMax u = k := by
      refine firstMax_eq ⟨fun j => ?_, fun j hj => ?_⟩
      · rw [← hx j, ← hx k]; exact hle _ (hκ j)
      · refine lt_of_le_of_ne ?_ fun he => ?_
        · rw [← hx j, ← hx k]; exact hle _ (hκ j)
        · have := hfirst _ (hκ j) (by rw [hx j, hx k, he])
          dsimp only at this
          rw [hg, hg, toInt_ofNat_of_lt (j.isLt.trans hn), toInt_ofNat_of_lt (k.isLt.trans hn)] at this
          have hj' : j.val < k.val := hj
          omega
    rw [hk]; exact hg k

/-! ## The maximum and the least index that reaches it -/

/-- The fold of `max` from the bottom is the first largest entry. -/
theorem fold_max_eq [NeZero n] (u : Fin n → EReal) :
    (Finset.univ : Finset (Fin n)).fold max ⊥ u = u (firstMax u) := by
  refine le_antisymm ?_ ?_
  · exact Finset.fold_max_le _ |>.mpr ⟨bot_le, fun j _ => (firstMax_spec u).1 j⟩
  · exact Finset.le_fold_max _ |>.mpr (.inr ⟨_, Finset.mem_univ _, le_rfl⟩)

theorem toInt_minsi (a b : BitVec 32) : (IntOp.minsi a b).toInt = min a.toInt b.toInt := by
  unfold IntOp.minsi
  by_cases h : a.toInt < b.toInt
  · simp [BitVec.slt_eq_decide, h, h.le]
  · simp [BitVec.slt_eq_decide, h, not_lt.mp h]

theorem minsi_cases (a b : BitVec 32) : IntOp.minsi a b = a ∨ IntOp.minsi a b = b := by
  unfold IntOp.minsi
  split <;> simp

/-- The signed minimum of a family is any entry that is not above the others nor above the start. -/
theorem fold_minsi_eq (a v : BitVec 32) (f : Fin n → BitVec 32) (i : Fin n) (hi : f i = v)
    (hv : ∀ k, v.toInt ≤ (f k).toInt) (ha : v.toInt ≤ a.toInt) :
    (Finset.univ : Finset (Fin n)).fold IntOp.minsi a f = v := by
  classical
  have key : ∀ s : Finset (Fin n), v.toInt ≤ (s.fold IntOp.minsi a f).toInt ∧
      ∀ k ∈ s, (s.fold IntOp.minsi a f).toInt ≤ (f k).toInt := by
    intro s
    induction s using Finset.induction_on with
    | empty => exact ⟨by simpa using ha, by simp⟩
    | insert e s he ih =>
      rw [Finset.fold_insert he, toInt_minsi]
      refine ⟨le_min (hv e) ih.1, fun k hk => ?_⟩
      rcases Finset.mem_insert.mp hk with rfl | hk
      · exact min_le_left _ _
      · exact (min_le_right _ _).trans (ih.2 k hk)
  have h := key Finset.univ
  refine BitVec.eq_of_toInt_eq (le_antisymm ?_ h.1)
  rw [← hi]; exact h.2 i (Finset.mem_univ _)

/-- The least of the indices of the entries not below the maximum, the others counted as `n`, is the place of the
    first largest entry. -/
theorem fold_minsi_firstMax [NeZero n] (hn : n < 2147483648) (u : Fin n → EReal) :
    (Finset.univ : Finset (Fin n)).fold IntOp.minsi 2147483647#32
      (fun k => if u (firstMax u) ≤ u k then BitVec.ofNat 32 k.val else BitVec.ofNat 32 n)
      = BitVec.ofNat 32 (firstMax u).val := by
  have hlt := (firstMax u).isLt
  refine fold_minsi_eq _ _ _ (firstMax u) (by simp) (fun k => ?_) ?_
  · rw [toInt_ofNat_of_lt (hlt.trans hn)]
    split
    · next h =>
      rw [toInt_ofNat_of_lt (k.isLt.trans hn)]
      have : ¬ k < firstMax u := fun hk => absurd ((firstMax_spec u).2 k hk) (not_lt.mpr h)
      have : firstMax u ≤ k := not_lt.mp this
      exact_mod_cast this
    · rw [toInt_ofNat_of_lt hn]; omega
  · rw [toInt_ofNat_of_lt (hlt.trans hn)]
    have : (2147483647#32 : BitVec 32).toInt = 2147483647 := by decide
    rw [this]; omega

theorem ofNat_inj_of_lt {a b : ℕ} (ha : a < 4294967296) (hb : b < 4294967296) :
    BitVec.ofNat 32 a = BitVec.ofNat 32 b ↔ a = b := by
  constructor
  · intro h
    have := congrArg BitVec.toNat h
    simp only [BitVec.toNat_ofNat] at this
    omega
  · rintro rfl; rfl

/-- The sum of a family masked to one index is the entry there. -/
theorem sum_onehot (hn : n < 4294967296) (r : Fin n → EReal) (i : Fin n) :
    (∑ k : Fin n, if BitVec.ofNat 32 k.val = BitVec.ofNat 32 i.val then r k else 0) = r i := by
  have : ∀ k : Fin n, (BitVec.ofNat 32 k.val = BitVec.ofNat 32 i.val) ↔ k = i := fun k => by
    rw [ofNat_inj_of_lt (k.isLt.trans hn) (i.isLt.trans hn), Fin.ext_iff]
  simp only [this, Finset.sum_ite_eq', Finset.mem_univ, if_true]

/-- Three entries: the first is the place when it is at least the larger of the others, else the second when it is at
    least the third, else the third. -/
theorem firstMax_three (u : Fin 3 → EReal) :
    firstMax u = if max (u 1) (u 2) ≤ u 0 then 0 else if u 2 ≤ u 1 then 1 else 2 := by
  split
  · next h =>
    refine firstMax_eq ⟨fun j => ?_, fun j hj => absurd hj (Fin.not_lt_zero j)⟩
    fin_cases j
    · exact le_rfl
    · exact (le_max_left _ _).trans h
    · exact (le_max_right _ _).trans h
  · next h =>
    rw [not_le] at h
    split
    · next h' =>
      rw [max_eq_left h'] at h
      refine firstMax_eq ⟨fun j => ?_, fun j hj => ?_⟩
      · fin_cases j
        · exact h.le
        · exact le_rfl
        · exact h'
      · have : j = 0 := by omega
        subst this; exact h
    · next h' =>
      rw [not_le] at h'
      rw [max_eq_right h'.le] at h
      refine firstMax_eq ⟨fun j => ?_, fun j hj => ?_⟩
      · fin_cases j
        · exact h.le
        · exact h'.le
        · exact le_rfl
      · have : j = 0 ∨ j = 1 := by omega
        rcases this with rfl | rfl
        · exact h
        · exact h'

end Cert.Argmax
-- ==== Proof.Spec.lean ====
/- What the three results are, at one point of one batch: the two heads over a hidden layer, and the seven numbers
   decoded from them; and the equality of the hidden layer with its scale folded into the weights. -/
module

public import proofs.«01_k».proof.Proof.Argmax

@[expose] public section

noncomputable section

namespace Cert.Spec

open Idealize.ShloMosaic Cert.Argmax

/-- One hidden unit: the affine map of the features, scaled and shifted, cut at zero. -/
def hid (W : Fin 256 → EReal) (b g β : EReal) (x : Fin 256 → EReal) : EReal :=
  max ((∑ c, x c * W c + b) * g + β) 0

/-- One hidden unit whose scale is already in its weights and bias. -/
def hidF (W : Fin 256 → EReal) (b : EReal) (x : Fin 256 → EReal) : EReal :=
  max (∑ c, W c * x c + b) 0

/-- One output of a head: an affine map of the hidden layer. -/
def head (h w : Fin 128 → EReal) (b : EReal) : EReal := ∑ k, h k * w k + b

/-- The row of the mean sizes at the likeliest class. -/
def sizeRow (ms : Fin 3 → Fin 3 → EReal) (cls : Fin 3 → EReal) : Fin 3 → EReal := ms (firstMax cls)

/-- The likeliest heading bin of a box row. -/
def bin (u : Fin 30 → EReal) : Fin 12 := firstMax fun k : Fin 12 => u ⟨6 + k.val, by omega⟩

/-- The decoded box: centre, sizes and heading, from a box row, a mean size and the point. -/
def decode (u : Fin 30 → EReal) (s p : Fin 3 → EReal) : Fin 7 → EReal :=
  ![u 0 * Ideal.sqrt (s 0 * s 0 + s 1 * s 1) + p 0,
    u 1 * Ideal.sqrt (s 0 * s 0 + s 1 * s 1) + p 1,
    u 2 * s 2 + p 2,
    Ideal.exp (u 3) * s 0,
    Ideal.exp (u 4) * s 1,
    Ideal.exp (u 5) * s 2,
    (((bin u).val : ℝ) : EReal) * Ideal.ofBits .f32 0x3F060A92#32 + u ⟨18 + (bin u).val, by have := (bin u).isLt; omega⟩]

/-- A real number plus anything, times a real number, is the sum of the products. -/
theorem add_mul_of_real (s g : ℝ) (b : EReal) : ((s : EReal) + b) * (g : EReal) = (s : EReal) * g + b * g := by
  induction b using EReal.rec with
  | bot =>
    rw [EReal.add_bot]
    rcases lt_trichotomy g 0 with h | h | h
    · rw [EReal.bot_mul_coe_of_neg h, ← EReal.coe_mul, EReal.coe_add_top]
    · subst h; simp
    · rw [EReal.bot_mul_coe_of_pos h, ← EReal.coe_mul, EReal.add_bot]
  | top =>
    rw [EReal.coe_add_top]
    rcases lt_trichotomy g 0 with h | h | h
    · rw [EReal.top_mul_coe_of_neg h, ← EReal.coe_mul, EReal.add_bot]
    · subst h; simp
    · rw [EReal.top_mul_coe_of_pos h, ← EReal.coe_mul, EReal.coe_add_top]
  | coe r => rw [← EReal.coe_add, ← EReal.coe_mul, ← EReal.coe_mul, ← EReal.coe_mul, ← EReal.coe_add, add_mul]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is a real number. -/
def IsReal (a : EReal) : Prop := ∃ r : ℝ, a = r

/-- Folding a real scale into real weights changes nothing on real features; the bias and the shift are any. -/
theorem hidF_eq_hid {W x : Fin 256 → EReal} {g : EReal} (hW : ∀ c, IsReal (W c)) (hx : ∀ c, IsReal (x c))
    (hg : IsReal g) (b β : EReal) : hidF (fun c => W c * g) (b * g + β) x = hid W b g β x := by
  choose W' hW' using hW
  choose x' hx' using hx
  obtain ⟨g', rfl⟩ := hg
  have h1 : ∀ c, W c * (g' : EReal) * x c = ((x' c * W' c * g' : ℝ) : EReal) := fun c => by
    rw [hW', hx', ← EReal.coe_mul, ← EReal.coe_mul]; congr 1; ring
  have h2 : ∀ c, x c * W c = ((x' c * W' c : ℝ) : EReal) := fun c => by rw [hW', hx', ← EReal.coe_mul]
  unfold hidF hid
  simp only [h1, h2]
  rw [← coe_sum, ← coe_sum, add_mul_of_real, ← EReal.coe_mul, Finset.sum_mul, add_assoc]

end Cert.Spec
-- ==== Proof.Pre.lean ====
/- The precondition read: an entry whose magnitude is below infinity is a real number. -/
module

public import proofs.«01_k».proof.Defs
public import proofs.«01_k».proof.Proof.Spec
public import Idealize.ShloMosaic.Lib.Pointwise

@[expose] public section

set_option maxRecDepth 16384

noncomputable section

open Idealize.ShloMosaic Idealize.ShloMosaic.TcCoe Idealize.SL.Sem

namespace Cert.Pre_finite

/-- The predicate's shape facts. -/
theorem facts : Cert.Pre_finite.Facts := ⟨by decide, by decide, by decide⟩

/-- A number whose magnitude is below infinity is real. -/
theorem real_of_lt {a : EReal} (h : max a (-a) < ⊤) : Cert.Spec.IsReal a := by
  induction a with
  | bot => simp at h
  | top => simp at h
  | coe r => exact ⟨r, rfl⟩

/-- The mask of an array, all ones, makes every entry real. -/
theorem real_of_mask {S : Shape} (x : FVec Ideal S .f32) (h : S_.BroadcastsInDim S (![] : Fin 0 → Fin S.rank)) (i : S.Idx)
    (hm : cmpf .olt (Host.absf x) (broadcastInDim S ![] h (constant S_ .f32 0x7F800000#32)) i = 1#1) : Cert.Spec.IsReal (x i) := by
  pointwise at hm
  have ht : Ideal.ofBits FTy.f32 2139095040#32 = ⊤ := by simp [Ideal.ofBits, Ideal.ieee]
  rw [ht] at hm
  refine real_of_lt ?_
  by_contra hn
  rw [show decide (FloatOps.absf (x i) < (⊤ : EReal)) = false from decide_eq_false hn] at hm
  exact absurd hm (by decide)

end Cert.Pre_finite

end
-- ==== Proof.Payload.lean ====
/- What the kernel's body stores, read at one entry of each output block: the heads and the decoded box of the
   staged blocks. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Payload

open Idealize.ShloMosaic Idealize.ShloMosaic.TcCoe Idealize.SL.Sem
open Cert.KernelIdeal Cert.KernelIdeal.Gen Cert.Spec Cert.Argmax

/-- The hidden layer of a staged block at unit `k` and lane `l`. -/
def hidB (x : FVec Ideal S1x256x16384 .f32) (w : FVec Ideal S256x256 .f32) (b : FVec Ideal S256x1 .f32)
    (l : Fin 16384) (k : Fin 256) : EReal :=
  hidF (fun c => w (ix2 k c)) (b (ix2 k 0)) (fun c => x (ix3 0 c l))

theorem pay2_at (x : FVec Ideal S1x256x16384 .f32) (w : FVec Ideal S256x256 .f32) (b : FVec Ideal S256x1 .f32)
    (k : Fin 256) (l : Fin 16384) : k0_pay2 (F := Ideal) x w b (ix2 k l) = hidB x w b l k := by
  pointwise [k0_pay2]
  rfl

/-- The box row of a staged block at lane `l`. -/
def boxB (x : FVec Ideal S1x256x16384 .f32) (w : FVec Ideal S256x256 .f32) (b : FVec Ideal S256x1 .f32)
    (w2 : FVec Ideal S30x128 .f32) (b2 : FVec Ideal S30x1 .f32) (l : Fin 16384) (o : Fin 30) : EReal :=
  head (fun k => hidB x w b l ⟨k.val, by omega⟩) (fun k => w2 (ix2 o k)) (b2 (ix2 o 0))

/-- The class row of a staged block at lane `l`. -/
def clsB (x : FVec Ideal S1x256x16384 .f32) (w : FVec Ideal S256x256 .f32) (b : FVec Ideal S256x1 .f32)
    (w2 : FVec Ideal S3x128 .f32) (b2 : FVec Ideal S3x1 .f32) (l : Fin 16384) (o : Fin 3) : EReal :=
  head (fun k => hidB x w b l ⟨128 + k.val, by omega⟩) (fun k => w2 (ix2 o k)) (b2 (ix2 o 0))

theorem pay3_at (x : FVec Ideal S1x256x16384 .f32) (w : FVec Ideal S256x256 .f32) (b : FVec Ideal S256x1 .f32)
    (w2 : FVec Ideal S30x128 .f32) (b2 : FVec Ideal S30x1 .f32) (o : Fin 30) (l : Fin 16384) :
    k0_pay3 (F := Ideal) x w b w2 b2 (ix2 o l) = boxB x w b w2 b2 l o := by
  pointwise [k0_pay3, pay2_at]
  unfold boxB head
  exact congrArg (· + _) (Finset.sum_congr rfl fun k _ => mul_comm _ _)

theorem pay4_at (x : FVec Ideal S1x256x16384 .f32) (w : FVec Ideal S256x256 .f32) (b : FVec Ideal S256x1 .f32)
    (w2 : FVec Ideal S3x128 .f32) (b2 : FVec Ideal S3x1 .f32) (o : Fin 3) (l : Fin 16384) :
    k0_pay4 (F := Ideal) x w b w2 b2 (ix2 o l) = clsB x w b w2 b2 l o := by
  pointwise [k0_pay4, pay2_at]
  unfold clsB head
  exact congrArg (· + _) (Finset.sum_congr rfl fun k _ => mul_comm _ _)

/-- The first output block: the box rows. -/
theorem pay5_at (x : FVec Ideal S1x256x16384 .f32) (w : FVec Ideal S256x256 .f32) (b : FVec Ideal S256x1 .f32)
    (w2 : FVec Ideal S30x128 .f32) (b2 : FVec Ideal S30x1 .f32) (z : Fin 1) (o : Fin 30) (l : Fin 16384) :
    k0_pay5 (F := Ideal) x w b w2 b2 (ix3 z o l) = boxB x w b w2 b2 l o := by
  pointwise [k0_pay5]
  exact pay3_at x w b w2 b2 o l

/-- The second output block: the class rows. -/
theorem pay6_at (x : FVec Ideal S1x256x16384 .f32) (w : FVec Ideal S256x256 .f32) (b : FVec Ideal S256x1 .f32)
    (w2 : FVec Ideal S3x128 .f32) (b2 : FVec Ideal S3x1 .f32) (z : Fin 1) (o : Fin 3) (l : Fin 16384) :
    k0_pay6 (F := Ideal) x w b w2 b2 (ix3 z o l) = clsB x w b w2 b2 l o := by
  pointwise [k0_pay6]
  exact pay4_at x w b w2 b2 o l

/-- Three numbers selected by the two class comparisons: the one at the likeliest class. -/
theorem select_three (c : FVec Ideal S3x16384 .f32) (t : Fin 3 → EReal) (l : Fin 16384) :
    (if max (c (ix2 1 l)) (c (ix2 2 l)) ≤ c (ix2 0 l) then t 0 else if c (ix2 2 l) ≤ c (ix2 1 l) then t 1 else t 2)
      = t (firstMax fun k => c (ix2 k l)) := by
  rw [firstMax_three]
  split
  · rfl
  · split <;> rfl

theorem pay11_at (c : FVec Ideal S3x16384 .f32) (t : Fin 3 → EReal) (z : Fin 1) (l : Fin 16384) :
    k0_pay11 (F := Ideal) c (t 0) (t 1) (t 2) (ix2 z l) = t (firstMax fun k => c (ix2 k l)) := by
  rw [← select_three c t l]
  obtain rfl : z = 0 := Subsingleton.elim _ _
  pointwise [k0_pay11, k0_pay10, k0_pay9, k0_pay8, k0_pay7]

theorem pay12_at (c : FVec Ideal S3x16384 .f32) (t : Fin 3 → EReal) (z : Fin 1) (l : Fin 16384) :
    k0_pay12 (F := Ideal) c (t 0) (t 1) (t 2) (ix2 z l) = t (firstMax fun k => c (ix2 k l)) := by
  rw [← select_three c t l]
  obtain rfl : z = 0 := Subsingleton.elim _ _
  pointwise [k0_pay12, k0_pay10, k0_pay9, k0_pay8, k0_pay7]

theorem pay13_at (c : FVec Ideal S3x16384 .f32) (t : Fin 3 → EReal) (z : Fin 1) (l : Fin 16384) :
    k0_pay13 (F := Ideal) c (t 0) (t 1) (t 2) (ix2 z l) = t (firstMax fun k => c (ix2 k l)) := by
  rw [← select_three c t l]
  obtain rfl : z = 0 := Subsingleton.elim _ _
  pointwise [k0_pay13, k0_pay10, k0_pay9, k0_pay8, k0_pay7]

theorem pay15_at (p : FVec Ideal S1x3x16384 .f32) (z : Fin 1) (l : Fin 16384) :
    k0_pay15 (F := Ideal) p (ix2 z l) = p (ix3 0 0 l) := by
  obtain rfl : z = 0 := Subsingleton.elim _ _
  pointwise [k0_pay15, k0_pay14]

theorem pay16_at (p : FVec Ideal S1x3x16384 .f32) (z : Fin 1) (l : Fin 16384) :
    k0_pay16 (F := Ideal) p (ix2 z l) = p (ix3 0 1 l) := by
  obtain rfl : z = 0 := Subsingleton.elim _ _
  pointwise [k0_pay16, k0_pay14]

theorem pay17_at (p : FVec Ideal S1x3x16384 .f32) (z : Fin 1) (l : Fin 16384) :
    k0_pay17 (F := Ideal) p (ix2 z l) = p (ix3 0 2 l) := by
  obtain rfl : z = 0 := Subsingleton.elim _ _
  pointwise [k0_pay17, k0_pay14]

/-- The pattern of minus infinity. -/
theorem ofBits_bot : Ideal.ofBits .f32 4286578688#32 = ⊥ := by
  simp [Ideal.ofBits, Ideal.ieee]

/-- The heading the kernel computes: the bin by the least index that reaches the maximum, and the entry there by a
    masked sum. -/
theorem heading (u : Fin 30 → EReal) (s p : Fin 3 → EReal) :
    (let M : EReal := Finset.univ.fold max ⊥ fun k : Fin 12 => u ⟨6 + k.val, by omega⟩
     let i : BitVec 32 := Finset.univ.fold IntOp.minsi 2147483647#32
       fun k : Fin 12 => if M ≤ u ⟨6 + k.val, by omega⟩ then BitVec.ofNat 32 k.val else 12#32
     FloatOps.sitofp (F := Ideal) .f32 i * Ideal.ofBits .f32 1057360530#32
       + ∑ k : Fin 12, Scalar.select (IntOp.cmpi .eq (BitVec.ofNat 32 k.val) i) (u ⟨18 + k.val, by omega⟩) 0)
      = decode u s p 6 := by
  dsimp only
  have hM : (Finset.univ.fold max ⊥ fun k : Fin 12 => u ⟨6 + k.val, by omega⟩) = u ⟨6 + (bin u).val, by omega⟩ :=
    fold_max_eq fun k : Fin 12 => u ⟨6 + k.val, by omega⟩
  rw [hM]
  have hi : (Finset.univ.fold IntOp.minsi 2147483647#32 fun k : Fin 12 =>
      if u ⟨6 + (bin u).val, by omega⟩ ≤ u ⟨6 + k.val, by omega⟩ then BitVec.ofNat 32 k.val else 12#32)
      = BitVec.ofNat 32 (bin u).val :=
    fold_minsi_firstMax (by norm_num) fun k : Fin 12 => u ⟨6 + k.val, by omega⟩
  rw [hi]
  have hs : (∑ k : Fin 12, Scalar.select (IntOp.cmpi .eq (BitVec.ofNat 32 k.val) (BitVec.ofNat 32 (bin u).val))
      (u ⟨18 + k.val, by omega⟩) 0) = u ⟨18 + (bin u).val, by omega⟩ := by
    rw [← sum_onehot (by norm_num) (fun k : Fin 12 => u ⟨18 + k.val, by omega⟩) (bin u)]
    refine Finset.sum_congr rfl fun k _ => ?_
    by_cases h : BitVec.ofNat 32 k.val = BitVec.ofNat 32 (bin u).val
    · simp [Scalar.select, IntOp.cmpi, h]
    · rw [if_neg h]
      have hb : (BitVec.ofNat 32 k.val == BitVec.ofNat 32 (bin u).val) = false := beq_eq_false_iff_ne.mpr h
      simp [Scalar.select, IntOp.cmpi, hb]
  rw [hs]
  have hb : (BitVec.ofNat 32 (bin u).val).toInt = (bin u).val := toInt_ofNat_of_lt (by have := (bin u).isLt; omega)
  show (((BitVec.ofNat 32 (bin u).val).toInt : ℝ) : EReal) * _ + _ = _
  rw [hb]
  rfl

/-- The third output block: the decoded boxes. -/
theorem pay1_at (v18 : FVec Ideal S30x16384 .f32) (v44 v52 v60 v63 v64 v65 : FVec Ideal S1x16384 .f32)
    (z : Fin 1) (o : Fin 7) (l : Fin 16384) :
    k0_pay1 (F := Ideal) v18 v44 v52 v60 v63 v64 v65 (k0_pay18 v18) (k0_pay19 v18) (k0_pay20 v18) (k0_pay21 v18)
        (ix3 z o l)
      = decode (fun k => v18 (ix2 k l)) ![v44 (ix2 0 l), v52 (ix2 0 l), v60 (ix2 0 l)]
          ![v63 (ix2 0 l), v64 (ix2 0 l), v65 (ix2 0 l)] o := by
  pointwise [k0_pay1, k0_pay18, k0_pay19, k0_pay20, k0_pay21]
  have hh := heading (fun k => v18 (ix2 k l)) ![v44 (ix2 0 l), v52 (ix2 0 l), v60 (ix2 0 l)]
    ![v63 (ix2 0 l), v64 (ix2 0 l), v65 (ix2 0 l)]
  rw [← ofBits_bot] at hh
  dsimp only at hh
  have hd : ∀ q : Fin 7, q = o → decode (fun k => v18 (ix2 k l)) ![v44 (ix2 0 l), v52 (ix2 0 l), v60 (ix2 0 l)]
      ![v63 (ix2 0 l), v64 (ix2 0 l), v65 (ix2 0 l)] q = decode (fun k => v18 (ix2 k l))
        ![v44 (ix2 0 l), v52 (ix2 0 l), v60 (ix2 0 l)] ![v63 (ix2 0 l), v64 (ix2 0 l), v65 (ix2 0 l)] o :=
    fun q hq => congrArg _ hq
  fin_vals o with hk
  all_goals simp only [hk, Nat.reduceSub, Nat.reduceLT, ↓reduceDIte]
  · exact Eq.trans rfl (hd 0 (Fin.ext hk.symm))
  · exact Eq.trans rfl (hd 1 (Fin.ext hk.symm))
  · exact Eq.trans rfl (hd 2 (Fin.ext hk.symm))
  · exact Eq.trans rfl (hd 3 (Fin.ext hk.symm))
  · exact Eq.trans rfl (hd 4 (Fin.ext hk.symm))
  · exact Eq.trans rfl (hd 5 (Fin.ext hk.symm))
  · exact Eq.trans hh (hd 6 (Fin.ext hk.symm))

/-- The third output block: the decoded boxes, from the box row, the class row, the size table and the point. -/
theorem block_decoded (x : FVec Ideal S1x256x16384 .f32) (w : FVec Ideal S256x256 .f32) (b : FVec Ideal S256x1 .f32)
    (w2 : FVec Ideal S30x128 .f32) (b2 : FVec Ideal S30x1 .f32) (wc : FVec Ideal S3x128 .f32) (bc : FVec Ideal S3x1 .f32)
    (s : FVec Ideal S3x3 .f32) (p : FVec Ideal S1x3x16384 .f32) (z : Fin 1) (o : Fin 7) (l : Fin 16384) :
    k0_pay1 (F := Ideal) (k0_pay3 x w b w2 b2)
        (k0_pay11 (k0_pay4 x w b wc bc) (s (ix2 0 0)) (s (ix2 1 0)) (s (ix2 2 0)))
        (k0_pay12 (k0_pay4 x w b wc bc) (s (ix2 0 1)) (s (ix2 1 1)) (s (ix2 2 1)))
        (k0_pay13 (k0_pay4 x w b wc bc) (s (ix2 0 2)) (s (ix2 1 2)) (s (ix2 2 2)))
        (k0_pay15 p) (k0_pay16 p) (k0_pay17 p)
        (k0_pay18 (k0_pay3 x w b w2 b2)) (k0_pay19 (k0_pay3 x w b w2 b2)) (k0_pay20 (k0_pay3 x w b w2 b2))
        (k0_pay21 (k0_pay3 x w b w2 b2)) (ix3 z o l)
      = decode (boxB x w b w2 b2 l) (sizeRow (fun i j => s (ix2 i j)) (clsB x w b wc bc l)) (fun i => p (ix3 0 i l)) o := by
  rw [pay1_at]
  rw [pay11_at _ (fun i => s (ix2 i 0)), pay12_at _ (fun i => s (ix2 i 1)), pay13_at _ (fun i => s (ix2 i 2)),
    pay15_at, pay16_at, pay17_at]
  have h1 : (fun k => k0_pay3 (F := Ideal) x w b w2 b2 (ix2 k l)) = boxB x w b w2 b2 l := funext fun k => pay3_at x w b w2 b2 k l
  have h2 : (fun k => k0_pay4 (F := Ideal) x w b wc bc (ix2 k l)) = clsB x w b wc bc l := funext fun k => pay4_at x w b wc bc k l
  rw [h1, h2]
  have h3 : ∀ f : Fin 3 → EReal, ![f 0, f 1, f 2] = f := fun f => by
    funext i; fin_cases i <;> rfl
  exact congrArg₂ (fun a c => decode (boxB x w b w2 b2 l) a c o) (h3 (sizeRow (fun i j => s (ix2 i j)) (clsB x w b wc bc l)))
    (h3 fun i => p (ix3 0 i l))

end Cert.KernelIdeal.Payload

end
-- ==== Proof.Arrays.lean ====
/- What the kernel's three output arrays hold after its region, entry by entry, from what one grid point stores. -/
module

public import proofs.«01_k».proof.Proof.Gen.KernelIdeal.Frame
public import proofs.«01_k».proof.Proof.Payload
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Payload Cert.Spec Cert.Argmax

variable (m : (ℓ : Loc nD τ sig) → Buf (Elt Ideal) ℓ)

/-- The box row of one point: its feature column through the folded hidden layer (units 0 to 127) and the linear map. -/
def boxC (w : FVec Ideal S256x256 .f32) (b : FVec Ideal S256x1 .f32) (w2 : FVec Ideal S30x128 .f32)
    (b2 : FVec Ideal S30x1 .f32) (x : Fin 256 → EReal) (o : Fin 30) : EReal :=
  head (fun k : Fin 128 => hidF (fun c : Fin 256 => w (ix2 (⟨k.val, by omega⟩ : Fin 256) c)) (b (ix2 (⟨k.val, by omega⟩ : Fin 256) 0)) x)
    (fun k => w2 (ix2 o k)) (b2 (ix2 o 0))

/-- The class row of one point: units 128 to 255 of the folded hidden layer and the linear map. -/
def clsC (w : FVec Ideal S256x256 .f32) (b : FVec Ideal S256x1 .f32) (w2 : FVec Ideal S3x128 .f32)
    (b2 : FVec Ideal S3x1 .f32) (x : Fin 256 → EReal) (o : Fin 3) : EReal :=
  head (fun k : Fin 128 => hidF (fun c : Fin 256 => w (ix2 (⟨128 + k.val, by omega⟩ : Fin 256) c)) (b (ix2 (⟨128 + k.val, by omega⟩ : Fin 256) 0)) x)
    (fun k => w2 (ix2 o k)) (b2 (ix2 o 0))

/-- Every window's block index, at every grid point. -/
theorem idx : ∀ t : Fin cfg0.N, win0_0.index t = ![0, 0] ∧ win0_1.index t = ![t.val / 4, 0, t.val % 4] ∧ win0_2.index t = ![t.val / 4, 0, t.val % 4]
    ∧ win0_3.index t = ![0, 0] ∧ win0_4.index t = ![0, 0] ∧ win0_5.index t = ![0, 0] ∧ win0_6.index t = ![0, 0] ∧ win0_7.index t = ![0, 0] ∧ win0_8.index t = ![0, 0]
    ∧ win0_9.index t = ![t.val / 4, 0, t.val % 4] ∧ win0_10.index t = ![t.val / 4, 0, t.val % 4] ∧ win0_11.index t = ![t.val / 4, 0, t.val % 4] ∧ t.val / 4 < 4 :=
  (by decide +kernel : ∀ t : Fin grid0.N, _)

/-- What a grid point leaves in the box window. -/
theorem after9 (c : Dev nD) (t : Fin cfg0.N) :
    (dats m 0 c).after 9 t = k0_pay5 (F := Ideal) (iblk m c 1 t) (iblk m c 3 t) (iblk m c 4 t) (iblk m c 5 t) (iblk m c 6 t) := by
  rw [after0_9]
  frame_out

/-- What a grid point leaves in the class window. -/
theorem after10 (c : Dev nD) (t : Fin cfg0.N) :
    (dats m 0 c).after 10 t = k0_pay6 (F := Ideal) (iblk m c 1 t) (iblk m c 3 t) (iblk m c 4 t) (iblk m c 7 t) (iblk m c 8 t) := by
  rw [after0_10]
  frame_out

/-- One element of the size table read through its one-element load. -/
theorem ld_at (s : FVec Ideal S3x3 .f32) (r : Rect S3x3) (x : r.shape.Idx) (i j : Fin 3)
    (h0 : (r.idx x 0 : Nat) = i.val) (h1 : (r.idx x 1 : Nat) = j.val) :
    View.ld (Val := Elt Ideal) (e' := .f32) s r x = s (ix2 i j) := by
  refine congrArg s ?_
  funext a
  fin_cases a
  · exact Fin.ext h0
  · exact Fin.ext h1

/-- What a grid point leaves in the decoded window, at an entry. -/
theorem after11 (c : Dev nD) (t : Fin cfg0.N) (z : Fin 1) (o : Fin 7) (l : Fin 16384) :
    ((dats m 0 c).after 11 t : FVec Ideal S1x7x16384 .f32) (ix3 z o l)
      = decode (boxB (iblk m c 1 t) (iblk m c 3 t) (iblk m c 4 t) (iblk m c 5 t) (iblk m c 6 t) l)
          (sizeRow (fun i j => (iblk m c 0 t : FVec Ideal S3x3 .f32) (ix2 i j))
            (clsB (iblk m c 1 t) (iblk m c 3 t) (iblk m c 4 t) (iblk m c 7 t) (iblk m c 8 t) l))
          (fun i => (iblk m c 2 t : FVec Ideal S1x3x16384 .f32) (ix3 0 i l)) o := by
  rw [after0_11]
  frame_out
  refine Eq.trans ?_ (block_decoded (iblk m c 1 t) (iblk m c 3 t) (iblk m c 4 t) (iblk m c 5 t) (iblk m c 6 t) (iblk m c 7 t) (iblk m c 8 t)
    (iblk m c 0 t) (iblk m c 2 t) z o l)
  rw [ld_at _ _ _ 0 0 rfl rfl, ld_at _ _ _ 1 0 rfl rfl, ld_at _ _ _ 2 0 rfl rfl, ld_at _ _ _ 0 1 rfl rfl, ld_at _ _ _ 1 1 rfl rfl,
    ld_at _ _ _ 2 1 rfl rfl, ld_at _ _ _ 0 2 rfl rfl, ld_at _ _ _ 1 2 rfl rfl, ld_at _ _ _ 2 2 rfl rfl]

/-- The blocks of the windows that never move are their whole arrays: the size table, -/
theorem iblk0 (c : Dev nD) (t : Fin cfg0.N) : iblk m c 0 t = V m c main_arg18 := by blk_ext! [iblk, idx t]
/-- the stacked weights, -/
theorem iblk3 (c : Dev nD) (t : Fin cfg0.N) : iblk m c 3 t = V m c main_v6 := by blk_ext! [iblk, idx t]
/-- the stacked biases, -/
theorem iblk4 (c : Dev nD) (t : Fin cfg0.N) : iblk m c 4 t = V m c main_v12 := by blk_ext! [iblk, idx t]
/-- the box head's weights, -/
theorem iblk5 (c : Dev nD) (t : Fin cfg0.N) : iblk m c 5 t = V m c main_arg10 := by blk_ext! [iblk, idx t]
/-- its biases, -/
theorem iblk6 (c : Dev nD) (t : Fin cfg0.N) : iblk m c 6 t = V m c main_v14 := by blk_ext! [iblk, idx t]
/-- the class head's weights, -/
theorem iblk7 (c : Dev nD) (t : Fin cfg0.N) : iblk m c 7 t = V m c main_arg16 := by blk_ext! [iblk, idx t]
/-- its biases. -/
theorem iblk8 (c : Dev nD) (t : Fin cfg0.N) : iblk m c 8 t = V m c main_v15 := by blk_ext! [iblk, idx t]
/-- The feature block of a grid point is 16384 columns of one batch. -/
theorem iblk1 (c : Dev nD) (t : Fin cfg0.N) (k : Fin 256) (l : Fin 16384) :
    (iblk m c 1 t : FVec Ideal S1x256x16384 .f32) (ix3 0 k l)
      = (V m c main_arg0 : FVec Ideal S4x256x65536 .f32) (ix3 ⟨t.val / 4, (idx t).2.2.2.2.2.2.2.2.2.2.2.2⟩ k ⟨t.val % 4 * 16384 + l.val, by omega⟩) := by blk_ext [iblk, idx t]
/-- The point block of a grid point is 16384 columns of one batch. -/
theorem iblk2 (c : Dev nD) (t : Fin cfg0.N) (k : Fin 3) (l : Fin 16384) :
    (iblk m c 2 t : FVec Ideal S1x3x16384 .f32) (ix3 0 k l)
      = (V m c main_v13 : FVec Ideal S4x3x65536 .f32) (ix3 ⟨t.val / 4, (idx t).2.2.2.2.2.2.2.2.2.2.2.2⟩ k ⟨t.val % 4 * 16384 + l.val, by omega⟩) := by blk_ext [iblk, idx t]

/-- The box block's row at a lane is the box row of the array's point under it. -/
theorem boxB_iblk (c : Dev nD) (t : Fin cfg0.N) (l : Fin 16384) :
    boxB (iblk m c 1 t) (iblk m c 3 t) (iblk m c 4 t) (iblk m c 5 t) (iblk m c 6 t) l
      = boxC (V m c main_v6) (V m c main_v12) (V m c main_arg10) (V m c main_v14)
        (fun k => (V m c main_arg0 : FVec Ideal S4x256x65536 .f32)
          (ix3 ⟨t.val / 4, (idx t).2.2.2.2.2.2.2.2.2.2.2.2⟩ k ⟨t.val % 4 * 16384 + l.val, by omega⟩)) := by
  rw [iblk3, iblk4, iblk5, iblk6, ← funext fun k => iblk1 m c t k l]
  rfl

/-- The class block's row at a lane is the class row of the array's point under it. -/
theorem clsB_iblk (c : Dev nD) (t : Fin cfg0.N) (l : Fin 16384) :
    clsB (iblk m c 1 t) (iblk m c 3 t) (iblk m c 4 t) (iblk m c 7 t) (iblk m c 8 t) l
      = clsC (V m c main_v6) (V m c main_v12) (V m c main_arg16) (V m c main_v15)
        (fun k => (V m c main_arg0 : FVec Ideal S4x256x65536 .f32)
          (ix3 ⟨t.val / 4, (idx t).2.2.2.2.2.2.2.2.2.2.2.2⟩ k ⟨t.val % 4 * 16384 + l.val, by omega⟩)) := by
  rw [iblk3, iblk4, iblk7, iblk8, ← funext fun k => iblk1 m c t k l]
  rfl

/-- The box array's entry at coordinates. -/
def box (c : Dev nD) (b : Fin 4) (n : Fin 65536) : Fin 30 → EReal :=
  boxC (V m c main_v6) (V m c main_v12) (V m c main_arg10) (V m c main_v14)
    fun k => (V m c main_arg0 : FVec Ideal S4x256x65536 .f32) (ix3 b k n)

/-- The class array's entry at coordinates. -/
def cls (c : Dev nD) (b : Fin 4) (n : Fin 65536) : Fin 3 → EReal :=
  clsC (V m c main_v6) (V m c main_v12) (V m c main_arg16) (V m c main_v15)
    fun k => (V m c main_arg0 : FVec Ideal S4x256x65536 .f32) (ix3 b k n)

/-- The decoded array's entry at coordinates. -/
def dec (c : Dev nD) (b : Fin 4) (n : Fin 65536) : Fin 7 → EReal :=
  decode (box m c b n) (sizeRow (fun i j => (V m c main_arg18 : FVec Ideal S3x3 .f32) (ix2 i j)) (cls m c b n))
    fun i => (V m c main_v13 : FVec Ideal S4x3x65536 .f32) (ix3 b i n)

/-- The box array after the region. -/
theorem final9 (c : Dev nD) : (dats m 0 c).arrAt 9 (cfgs 0).N = fun i : S4x30x65536.Idx => box m c (i 0) (i 2) (i 1) := by
  refine (dats m 0 c).arrAt_eq_of_covers 9 _ (by decide +kernel) fun t _ y => ?_
  blk_simp
  rw [after9]
  have he : ((win0_9.blk t).view.emb y : S4x30x65536.Idx)
      = ix3 ⟨t.val / 4, (idx t).2.2.2.2.2.2.2.2.2.2.2.2⟩ (y 1) ⟨t.val % 4 * 16384 + (y 2).val, by have : (y 2).val < 16384 := (y 2).isLt; omega⟩ := by blk_ext [idx t]
  rw [he]
  refine (congrArg (k0_pay5 (F := Ideal) (iblk m c 1 t) (iblk m c 3 t) (iblk m c 4 t) (iblk m c 5 t) (iblk m c 6 t)) (eq_ix3 y)).trans ?_
  exact (pay5_at _ _ _ _ _ _ _ _).trans (congrFun (boxB_iblk m c t (y 2)) (y 1))

/-- The class array after the region. -/
theorem final10 (c : Dev nD) : (dats m 0 c).arrAt 10 (cfgs 0).N = fun i : S4x3x65536.Idx => cls m c (i 0) (i 2) (i 1) := by
  refine (dats m 0 c).arrAt_eq_of_covers 10 _ (by decide +kernel) fun t _ y => ?_
  blk_simp
  rw [after10]
  have he : ((win0_10.blk t).view.emb y : S4x3x65536.Idx)
      = ix3 ⟨t.val / 4, (idx t).2.2.2.2.2.2.2.2.2.2.2.2⟩ (y 1) ⟨t.val % 4 * 16384 + (y 2).val, by have : (y 2).val < 16384 := (y 2).isLt; omega⟩ := by blk_ext [idx t]
  rw [he]
  refine (congrArg (k0_pay6 (F := Ideal) (iblk m c 1 t) (iblk m c 3 t) (iblk m c 4 t) (iblk m c 7 t) (iblk m c 8 t)) (eq_ix3 y)).trans ?_
  exact (pay6_at _ _ _ _ _ _ _ _).trans (congrFun (clsB_iblk m c t (y 2)) (y 1))

/-- The decoded array after the region. -/
theorem final11 (c : Dev nD) : (dats m 0 c).arrAt 11 (cfgs 0).N = fun i : S4x7x65536.Idx => dec m c (i 0) (i 2) (i 1) := by
  refine (dats m 0 c).arrAt_eq_of_covers 11 _ (by decide +kernel) fun t _ y => ?_
  blk_simp
  have he : ((win0_11.blk t).view.emb y : S4x7x65536.Idx)
      = ix3 ⟨t.val / 4, (idx t).2.2.2.2.2.2.2.2.2.2.2.2⟩ (y 1) ⟨t.val % 4 * 16384 + (y 2).val, by have : (y 2).val < 16384 := (y 2).isLt; omega⟩ := by blk_ext [idx t]
  rw [he]
  refine (congrArg ((dats m 0 c).after 11 t : FVec Ideal S1x7x16384 .f32) (eq_ix3 y)).trans ?_
  refine (after11 m c t (y 0) (y 1) (y 2)).trans ?_
  rw [boxB_iblk m c t (y 2), clsB_iblk m c t (y 2), iblk0, funext fun k => iblk2 m c t k (y 2)]
  rfl

end Cert.KernelIdeal.Arrays

end
-- ==== Proof.KernelRun.lean ====
/- The kernel's program, run: its three results at every entry, its arguments unchanged. -/
module

public import proofs.«01_k».proof.Proof.Arrays
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Arrays

variable (m : (ℓ : Loc nD τ sig) → Buf (Elt Ideal) ℓ) (ρ : Dev nD → PrngReg)

/-- The first result: the box array transposed back. -/
theorem tail17 (c : Dev nD) : Pipeline.afterTail₀ cfgs (dats m) 0 (V0 m) [hostOps1] c main_v17
    = fun i : S4x65536x30.Idx => box m c (i 0) (i 1) (i 2) := by
  unfold Pipeline.afterTail₀
  simp only [List.flatten_cons, List.flatten_nil, List.append_nil]
  after_results
  erw [Pipeline.withArrays_arr spec0 launch0.win.arr_inj c (V0 m c) (fun w => (dats m 0 c).arrAt w (cfgs 0).N) 9]
  rw [final9]
  funext i
  pointwise

/-- The second result: the class array transposed back. -/
theorem tail18 (c : Dev nD) : Pipeline.afterTail₀ cfgs (dats m) 0 (V0 m) [hostOps1] c main_v18
    = fun i : S4x65536x3.Idx => cls m c (i 0) (i 1) (i 2) := by
  unfold Pipeline.afterTail₀
  simp only [List.flatten_cons, List.flatten_nil, List.append_nil]
  after_results
  erw [Pipeline.withArrays_arr spec0 launch0.win.arr_inj c (V0 m c) (fun w => (dats m 0 c).arrAt w (cfgs 0).N) 10]
  rw [final10]
  funext i
  pointwise

/-- The third result: the decoded array transposed back. -/
theorem tail19 (c : Dev nD) : Pipeline.afterTail₀ cfgs (dats m) 0 (V0 m) [hostOps1] c main_v19
    = fun i : S4x65536x7.Idx => dec m c (i 0) (i 1) (i 2) := by
  unfold Pipeline.afterTail₀
  simp only [List.flatten_cons, List.flatten_nil, List.append_nil]
  after_results
  erw [Pipeline.withArrays_arr spec0 launch0.win.arr_inj c (V0 m c) (fun w => (dats m 0 c).arrAt w (cfgs 0).N) 11]
  rw [final11]
  funext i
  pointwise

/-- Every weakly fair execution of the kernel's program ends with its three results at these contents and its
    arguments as launched. -/
theorem run : θ_run defs (onTc (τ := τ) (main (F := Ideal))) ⟨m, fun _ => 0, ρ⟩ fun r => ∀ c : Dev nD,
    r.2.mem ((c.tc : Thread nD τ).loc main_v17) = (fun i : S4x65536x30.Idx => box m c (i 0) (i 1) (i 2))
    ∧ r.2.mem ((c.tc : Thread nD τ).loc main_v18) = (fun i : S4x65536x3.Idx => cls m c (i 0) (i 1) (i 2))
    ∧ r.2.mem ((c.tc : Thread nD τ).loc main_v19) = (fun i : S4x65536x7.Idx => dec m c (i 0) (i 1) (i 2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18) :=
  (θ_run defs _ _).mono (fun _ h c => ⟨((h.1 c).2 main_v17 (by decide)).trans (tail17 m c),
    ((h.1 c).2 main_v18 (by decide)).trans (tail18 m c), ((h.1 c).2 main_v19 (by decide)).trans (tail19 m c), h.2 c⟩)
    (θ_run_and (run_main m ρ) (unchanged m ρ))

end Cert.KernelIdeal.Run

end
-- ==== Proof.Stages.lean ====
/- A straight line of host operations no two of which write the same buffer, read back one operation at a time:
   at the end each written buffer is its operation's function of the operands' contents at the end. -/
module

public import Idealize.ShloMosaic.Lib.StableHlo.Run

@[expose] public section

noncomputable section

namespace Cert.Stages

open Idealize.ShloMosaic Idealize.ShloMosaic.StableHlo

variable {τ : Topo} {sig : RefSig} {Val : EltTy → Type}
variable {ops : List (HloOp τ sig Val)} {W : List (Ref sig .tc)}

/-- A buffer none of the line's operations writes keeps its contents. -/
theorem after_unwritten (hW : ops.map HloOp.writes = W.map fun r => {Proc.devRef (τ := τ) .tc r})
    {r : Ref sig .tc} (hr : r ∉ W) (V : Valuation τ sig Val) :
    after ops V (Proc.devRef .tc r) = V (Proc.devRef .tc r) :=
  after_of_writes_sub ops V (forall_writes_sub_of_map hW) hr

theorem after_concat (l₁ l₂ : List (HloOp τ sig Val)) (V : Valuation τ sig Val) :
    after (l₁ ++ l₂) V = after l₂ (after l₁ V) := by
  induction l₁ generalizing V with
  | nil => rfl
  | cons o l ih => simp only [List.cons_append, after_cons, ih]

/-- A buffer no operation from the `k`-th on writes holds at the end what it held before the `k`-th. -/
theorem after_take (hW : ops.map HloOp.writes = W.map fun r => {Proc.devRef (τ := τ) .tc r})
    (V : Valuation τ sig Val) (k : ℕ) {r : Ref sig .tc} (hr : r ∉ W.drop k) :
    after (ops.take k) V (Proc.devRef .tc r) = after ops V (Proc.devRef .tc r) := by
  have hd : (ops.drop k).map HloOp.writes = (W.drop k).map fun r => {Proc.devRef (τ := τ) .tc r} := by
    rw [List.map_drop, List.map_drop, hW]
  conv_rhs => rw [← List.take_append_drop k ops, after_concat]
  exact (after_unwritten hd hr _).symm

/-- The buffer the `k`-th operation writes, when no later one writes it, holds that operation's result. -/
theorem after_step (hW : ops.map HloOp.writes = W.map fun r => {Proc.devRef (τ := τ) .tc r})
    (V : Valuation τ sig Val) (k : ℕ) {op : HloOp τ sig Val} (hk : ops[k]? = some op)
    {y : Ref sig .tc} (hy : y ∉ W.drop (k + 1)) :
    after ops V (Proc.devRef .tc y) = op.result (after (ops.take k) V) (Proc.devRef .tc y) := by
  have h1 := after_take hW V (k + 1) hy
  rw [← h1, List.take_add_one, hk, after_concat]
  rfl

variable {a b c e y : Ref sig .tc}

theorem read_nullary (hW : ops.map HloOp.writes = W.map fun r => {Proc.devRef (τ := τ) .tc r})
    (V : Valuation τ sig Val) (k : ℕ) {f : y.ty.Contents Val} {hy}
    (hk : ops[k]? = some (nullary y f hy)) (h : y ∉ W.drop (k + 1)) :
    after ops V (Proc.devRef .tc y) = f :=
  (after_step hW V k hk h).trans (nullary_result y f hy _)

theorem read_unary (hW : ops.map HloOp.writes = W.map fun r => {Proc.devRef (τ := τ) .tc r})
    (V : Valuation τ sig Val) (k : ℕ) {f : a.ty.Contents Val → y.ty.Contents Val} {ha hy}
    (hk : ops[k]? = some (unary a y f ha hy)) (h : y ∉ W.drop (k + 1)) (h1 : a ∉ W.drop k) :
    after ops V (Proc.devRef .tc y) = f (after ops V (Proc.devRef .tc a)) := by
  rw [after_step hW V k hk h, unary_result, after_take hW V k h1]

theorem read_binary (hW : ops.map HloOp.writes = W.map fun r => {Proc.devRef (τ := τ) .tc r})
    (V : Valuation τ sig Val) (k : ℕ) {f : a.ty.Contents Val → b.ty.Contents Val → y.ty.Contents Val} {ha hb hy}
    (hk : ops[k]? = some (binary a b y f ha hb hy)) (h : y ∉ W.drop (k + 1)) (h1 : a ∉ W.drop k) (h2 : b ∉ W.drop k) :
    after ops V (Proc.devRef .tc y) = f (after ops V (Proc.devRef .tc a)) (after ops V (Proc.devRef .tc b)) := by
  rw [after_step hW V k hk h, binary_result, after_take hW V k h1, after_take hW V k h2]

theorem read_ternary (hW : ops.map HloOp.writes = W.map fun r => {Proc.devRef (τ := τ) .tc r})
    (V : Valuation τ sig Val) (k : ℕ)
    {f : a.ty.Contents Val → b.ty.Contents Val → c.ty.Contents Val → y.ty.Contents Val} {ha hb hc hy}
    (hk : ops[k]? = some (ternary a b c y f ha hb hc hy)) (h : y ∉ W.drop (k + 1))
    (h1 : a ∉ W.drop k) (h2 : b ∉ W.drop k) (h3 : c ∉ W.drop k) :
    after ops V (Proc.devRef .tc y)
      = f (after ops V (Proc.devRef .tc a)) (after ops V (Proc.devRef .tc b)) (after ops V (Proc.devRef .tc c)) := by
  rw [after_step hW V k hk h, ternary_result, after_take hW V k h1, after_take hW V k h2, after_take hW V k h3]

theorem read_quaternary (hW : ops.map HloOp.writes = W.map fun r => {Proc.devRef (τ := τ) .tc r})
    (V : Valuation τ sig Val) (k : ℕ)
    {f : a.ty.Contents Val → b.ty.Contents Val → c.ty.Contents Val → e.ty.Contents Val → y.ty.Contents Val} {ha hb hc he hy}
    (hk : ops[k]? = some (quaternary a b c e y f ha hb hc he hy)) (h : y ∉ W.drop (k + 1))
    (h1 : a ∉ W.drop k) (h2 : b ∉ W.drop k) (h3 : c ∉ W.drop k) (h4 : e ∉ W.drop k) :
    after ops V (Proc.devRef .tc y)
      = f (after ops V (Proc.devRef .tc a)) (after ops V (Proc.devRef .tc b)) (after ops V (Proc.devRef .tc c))
          (after ops V (Proc.devRef .tc e)) := by
  rw [after_step hW V k hk h, quaternary_result, after_take hW V k h1, after_take hW V k h2, after_take hW V k h3,
    after_take hW V k h4]

theorem read_reshape (hW : ops.map HloOp.writes = W.map fun r => {Proc.devRef (τ := τ) .tc r})
    (V : Valuation τ sig Val) (k : ℕ) {he : a.ty.elt = y.ty.elt} {hn : a.ty.shape.ShapeCasts y.ty.shape} {ha hy}
    (hk : ops[k]? = some (reshape a y he hn ha hy)) (h : y ∉ W.drop (k + 1)) (h1 : a ∉ W.drop k) :
    after ops V (Proc.devRef .tc y) = fun i => he ▸ shapeCast y.ty.shape (after ops V (Proc.devRef .tc a)) hn i := by
  rw [after_step hW V k hk h, reshape_result, after_take hW V k h1]

theorem read_nary (hW : ops.map HloOp.writes = W.map fun r => {Proc.devRef (τ := τ) .tc r})
    (V : Valuation τ sig Val) (k : ℕ) {n : ℕ} {xs : Fin n → Ref sig .tc}
    {f : ((j : Fin n) → (xs j).ty.Contents Val) → y.ty.Contents Val} {hxs hy}
    (hk : ops[k]? = some (nary xs y f hxs hy)) (h : y ∉ W.drop (k + 1)) (h1 : ∀ j, xs j ∉ W.drop k) :
    after ops V (Proc.devRef .tc y) = f (fun j => after ops V (Proc.devRef .tc (xs j))) := by
  rw [after_step hW V k hk h, nary_result]
  exact congrArg f (funext fun j => after_take hW V k (h1 j))

end Cert.Stages

end
-- ==== Proof.RefStages.lean ====
/- The reference program's run, read operation by operation: every buffer's contents at the end is its own
   operation of the contents of the operands' buffers at the end, because no buffer is written twice. -/
module

public import proofs.«01_k».proof.Proof.Gen.ReferenceIdeal
public import Idealize.ShloMosaic.PureOps.Ideal
public import Idealize.ShloMosaic.Lib.StableHlo.Run
public import proofs.«01_k».proof.Proof.Stages

@[expose] public section

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo Cert.Stages

/-- The reference's operations in program order, those of its inner functions in their calls' places. -/
def gops {F : FTy → Type} [FloatOps F] : List (HloOp τ sig (Elt F)) :=
  [ binary main_arg0 main_arg6 main_v0 ((fun l r => Host.dotGeneral dot_S4x256x65536_S128x256_S4x65536x128_1_1_02_0_n_n none l r) : (⟨S4x256x65536, .f32⟩ : BufTy).Contents (Elt F) → (⟨S128x256, .f32⟩ : BufTy).Contents (Elt F) → (⟨S4x65536x128, .f32⟩ : BufTy).Contents (Elt F)),
    unary main_v0 main_v1 ((transpose S4x128x65536 [0, 2, 1] · transposes_S4x65536x128_S4x128x65536_0_2_1) : (⟨S4x65536x128, .f32⟩ : BufTy).Contents (Elt F) → (⟨S4x128x65536, .f32⟩ : BufTy).Contents (Elt F)),
    unary main_arg7 main_v2 (broadcastInDim S1x128x1 ![1] bcast_S128_S1x128x1_1 : (⟨S128, .f32⟩ : BufTy).Contents (Elt F) → (⟨S1x128x1, .f32⟩ : BufTy).Contents (Elt F)),
    unary main_v2 main_v3 (broadcastInDim S4x128x65536 ![0, 1, 2] bcast_S1x128x1_S4x128x65536_0_1_2 : (⟨S1x128x1, .f32⟩ : BufTy).Contents (Elt F) → (⟨S4x128x65536, .f32⟩ : BufTy).Contents (Elt F)),
    binary main_v1 main_v3 main_v4 (addf : (⟨S4x128x65536, .f32⟩ : BufTy).Contents (Elt F) → (⟨S4x128x65536, .f32⟩ : BufTy).Contents (Elt F) → (⟨S4x128x65536, .f32⟩ : BufTy).Contents (Elt F)),
    unary main_arg8 main_v5 (broadcastInDim S1x128x1 ![1] bcast_S128_S1x128x1_1 : (⟨S128, .f32⟩ : BufTy).Contents (Elt F) → (⟨S1x128x1, .f32⟩ : BufTy).Contents (Elt F)),
    unary main_v5 main_v6 (broadcastInDim S4x128x65536 ![0, 1, 2] bcast_S1x128x1_S4x128x65536_0_1_2 : (⟨S1x128x1, .f32⟩ : BufTy).Contents (Elt F) → (⟨S4x128x65536, .f32⟩ : BufTy).Contents (Elt F)),
    binary main_v4 main_v6 main_v7 (mulf : (⟨S4x128x65536, .f32⟩ : BufTy).Contents (Elt F) → (⟨S4x128x65536, .f32⟩ : BufTy).Contents (Elt F) → (⟨S4x128x65536, .f32⟩ : BufTy).Contents (Elt F)),
    unary main_arg9 main_v8 (broadcastInDim S1x128x1 ![1] bcast_S128_S1x128x1_1 : (⟨S128, .f32⟩ : BufTy).Contents (Elt F) → (⟨S1x128x1, .f32⟩ : BufTy).Contents (Elt F)),
    unary main_v8 main_v9 (broadcastInDim S4x128x65536 ![0, 1, 2] bcast_S1x128x1_S4x128x65536_0_1_2 : (⟨S1x128x1, .f32⟩ : BufTy).Contents (Elt F) → (⟨S4x128x65536, .f32⟩ : BufTy).Contents (Elt F)),
    binary main_v7 main_v9 main_v10 (addf : (⟨S4x128x65536, .f32⟩ : BufTy).Contents (Elt F) → (⟨S4x128x65536, .f32⟩ : BufTy).Contents (Elt F) → (⟨S4x128x65536, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4x128x65536, .f32⟩) main_call0_v0) (broadcastInDim S4x128x65536 ![] bcast_S_S4x128x65536),
    TRef.binary (TRef.of (T := ⟨S4x128x65536, .f32⟩) main_v10) (TRef.of (T := ⟨S4x128x65536, .f32⟩) main_call0_v0) (TRef.of (T := ⟨S4x128x65536, .f32⟩) main_v11) maximumf,
    binary main_v11 main_arg10 main_v12 ((fun l r => Host.dotGeneral dot_S4x128x65536_S30x128_S4x65536x30_1_1_02_0_n_n none l r) : (⟨S4x128x65536, .f32⟩ : BufTy).Contents (Elt F) → (⟨S30x128, .f32⟩ : BufTy).Contents (Elt F) → (⟨S4x65536x30, .f32⟩ : BufTy).Contents (Elt F)),
    unary main_v12 main_v13 ((transpose S4x30x65536 [0, 2, 1] · transposes_S4x65536x30_S4x30x65536_0_2_1) : (⟨S4x65536x30, .f32⟩ : BufTy).Contents (Elt F) → (⟨S4x30x65536, .f32⟩ : BufTy).Contents (Elt F)),
    unary main_arg11 main_v14 (broadcastInDim S1x30x1 ![1] bcast_S30_S1x30x1_1 : (⟨S30, .f32⟩ : BufTy).Contents (Elt F) → (⟨S1x30x1, .f32⟩ : BufTy).Contents (Elt F)),
    unary main_v14 main_v15 (broadcastInDim S4x30x65536 ![0, 1, 2] bcast_S1x30x1_S4x30x65536_0_1_2 : (⟨S1x30x1, .f32⟩ : BufTy).Contents (Elt F) → (⟨S4x30x65536, .f32⟩ : BufTy).Contents (Elt F)),
    binary main_v13 main_v15 main_v16 (addf : (⟨S4x30x65536, .f32⟩ : BufTy).Contents (Elt F) → (⟨S4x30x65536, .f32⟩ : BufTy).Contents (Elt F) → (⟨S4x30x65536, .f32⟩ : BufTy).Contents (Elt F)),
    unary main_v16 main_v17 ((transpose S4x65536x30 [0, 2, 1] · transposes_S4x30x65536_S4x65536x30_0_2_1) : (⟨S4x30x65536, .f32⟩ : BufTy).Contents (Elt F) → (⟨S4x65536x30, .f32⟩ : BufTy).Contents (Elt F)),
    binary main_arg0 main_arg12 main_v18 ((fun l r => Host.dotGeneral dot_S4x256x65536_S128x256_S4x65536x128_1_1_02_0_n_n none l r) : (⟨S4x256x65536, .f32⟩ : BufTy).Contents (Elt F) → (⟨S128x256, .f32⟩ : BufTy).Contents (Elt F) → (⟨S4x65536x128, .f32⟩ : BufTy).Contents (Elt F)),
    unary main_v18 main_v19 ((transpose S4x128x65536 [0, 2, 1] · transposes_S4x65536x128_S4x128x65536_0_2_1) : (⟨S4x65536x128, .f32⟩ : BufTy).Contents (Elt F) → (⟨S4x128x65536, .f32⟩ : BufTy).Contents (Elt F)),
    unary main_arg13 main_v20 (broadcastInDim S1x128x1 ![1] bcast_S128_S1x128x1_1 : (⟨S128, .f32⟩ : BufTy).Contents (Elt F) → (⟨S1x128x1, .f32⟩ : BufTy).Contents (Elt F)),
    unary main_v20 main_v21 (broadcastInDim S4x128x65536 ![0, 1, 2] bcast_S1x128x1_S4x128x65536_0_1_2 : (⟨S1x128x1, .f32⟩ : BufTy).Contents (Elt F) → (⟨S4x128x65536, .f32⟩ : BufTy).Contents (Elt F)),
    binary main_v19 main_v21 main_v22 (addf : (⟨S4x128x65536, .f32⟩ : BufTy).Contents (Elt F) → (⟨S4x128x65536, .f32⟩ : BufTy).Contents (Elt F) → (⟨S4x128x65536, .f32⟩ : BufTy).Contents (Elt F)),
    unary main_arg14 main_v23 (broadcastInDim S1x128x1 ![1] bcast_S128_S1x128x1_1 : (⟨S128, .f32⟩ : BufTy).Contents (Elt F) → (⟨S1x128x1, .f32⟩ : BufTy).Contents (Elt F)),
    unary main_v23 main_v24 (broadcastInDim S4x128x65536 ![0, 1, 2] bcast_S1x128x1_S4x128x65536_0_1_2 : (⟨S1x128x1, .f32⟩ : BufTy).Contents (Elt F) → (⟨S4x128x65536, .f32⟩ : BufTy).Contents (Elt F)),
    binary main_v22 main_v24 main_v25 (mulf : (⟨S4x128x65536, .f32⟩ : BufTy).Contents (Elt F) → (⟨S4x128x65536, .f32⟩ : BufTy).Contents (Elt F) → (⟨S4x128x65536, .f32⟩ : BufTy).Contents (Elt F)),
    unary main_arg15 main_v26 (broadcastInDim S1x128x1 ![1] bcast_S128_S1x128x1_1 : (⟨S128, .f32⟩ : BufTy).Contents (Elt F) → (⟨S1x128x1, .f32⟩ : BufTy).Contents (Elt F)),
    unary main_v26 main_v27 (broadcastInDim S4x128x65536 ![0, 1, 2] bcast_S1x128x1_S4x128x65536_0_1_2 : (⟨S1x128x1, .f32⟩ : BufTy).Contents (Elt F) → (⟨S4x128x65536, .f32⟩ : BufTy).Contents (Elt F)),
    binary main_v25 main_v27 main_v28 (addf : (⟨S4x128x65536, .f32⟩ : BufTy).Contents (Elt F) → (⟨S4x128x65536, .f32⟩ : BufTy).Contents (Elt F) → (⟨S4x128x65536, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S4x128x65536, .f32⟩) main_call1_v0) (broadcastInDim S4x128x65536 ![] bcast_S_S4x128x65536),
    TRef.binary (TRef.of (T := ⟨S4x128x65536, .f32⟩) main_v28) (TRef.of (T := ⟨S4x128x65536, .f32⟩) main_call1_v0) (TRef.of (T := ⟨S4x128x65536, .f32⟩) main_v29) maximumf,
    binary main_v29 main_arg16 main_v30 ((fun l r => Host.dotGeneral dot_S4x128x65536_S3x128_S4x65536x3_1_1_02_0_n_n none l r) : (⟨S4x128x65536, .f32⟩ : BufTy).Contents (Elt F) → (⟨S3x128, .f32⟩ : BufTy).Contents (Elt F) → (⟨S4x65536x3, .f32⟩ : BufTy).Contents (Elt F)),
    unary main_v30 main_v31 ((transpose S4x3x65536 [0, 2, 1] · transposes_S4x65536x3_S4x3x65536_0_2_1) : (⟨S4x65536x3, .f32⟩ : BufTy).Contents (Elt F) → (⟨S4x3x65536, .f32⟩ : BufTy).Contents (Elt F)),
    unary main_arg17 main_v32 (broadcastInDim S1x3x1 ![1] bcast_S3_S1x3x1_1 : (⟨S3, .f32⟩ : BufTy).Contents (Elt F) → (⟨S1x3x1, .f32⟩ : BufTy).Contents (Elt F)),
    unary main_v32 main_v33 (broadcastInDim S4x3x65536 ![0, 1, 2] bcast_S1x3x1_S4x3x65536_0_1_2 : (⟨S1x3x1, .f32⟩ : BufTy).Contents (Elt F) → (⟨S4x3x65536, .f32⟩ : BufTy).Contents (Elt F)),
    binary main_v31 main_v33 main_v34 (addf : (⟨S4x3x65536, .f32⟩ : BufTy).Contents (Elt F) → (⟨S4x3x65536, .f32⟩ : BufTy).Contents (Elt F) → (⟨S4x3x65536, .f32⟩ : BufTy).Contents (Elt F)),
    unary main_v34 main_v35 ((transpose S4x65536x3 [0, 2, 1] · transposes_S4x3x65536_S4x65536x3_0_2_1) : (⟨S4x3x65536, .f32⟩ : BufTy).Contents (Elt F) → (⟨S4x65536x3, .f32⟩ : BufTy).Contents (Elt F)),
    TRef.nullary (TRef.of (T := ⟨S4x65536x3, .i32⟩) main_call2_v0) (iotaInDim S4x65536x3 32 2),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S4x65536x3, .f32⟩) main_v35) (TRef.of (T := ⟨S4x65536x3, .i32⟩) main_call2_v0) (TRef.of (T := ⟨S_, .f32⟩) main_call2_cst) (TRef.of (T := ⟨S_, .i32⟩) main_call2_c) (TRef.of (T := ⟨S4x65536, .f32⟩) main_call2_v1_0) (fun x y u v j => (Host.argReduce reducer_argmax_f32_i32 x y u v reducesTo_S4x65536x3_S4x65536_d2 h_S_ j).1),
    TRef.quaternary (TRef.of (T := ⟨S4x65536x3, .f32⟩) main_v35) (TRef.of (T := ⟨S4x65536x3, .i32⟩) main_call2_v0) (TRef.of (T := ⟨S_, .f32⟩) main_call2_cst) (TRef.of (T := ⟨S_, .i32⟩) main_call2_c) (TRef.of (T := ⟨S4x65536, .i32⟩) main_v36) (fun x y u v j => (Host.argReduce reducer_argmax_f32_i32 x y u v reducesTo_S4x65536x3_S4x65536_d2 h_S_ j).2),
    unary main_v17 main_v37 ((extractStridedSlice S4x65536x1 ![0, 0, 0] · slices_S4x65536x30_S4x65536x1_0_0_0) : (⟨S4x65536x30, .f32⟩ : BufTy).Contents (Elt F) → (⟨S4x65536x1, .f32⟩ : BufTy).Contents (Elt F)),
    reshape main_v37 main_v38 (rfl : (.f32 : EltTy) = .f32) shapeCasts_S4x65536x1_S4x65536,
    unary main_v17 main_v39 ((extractStridedSlice S4x65536x1 ![0, 0, 1] · slices_S4x65536x30_S4x65536x1_0_0_1) : (⟨S4x65536x30, .f32⟩ : BufTy).Contents (Elt F) → (⟨S4x65536x1, .f32⟩ : BufTy).Contents (Elt F)),
    reshape main_v39 main_v40 (rfl : (.f32 : EltTy) = .f32) shapeCasts_S4x65536x1_S4x65536,
    unary main_v17 main_v41 ((extractStridedSlice S4x65536x1 ![0, 0, 2] · slices_S4x65536x30_S4x65536x1_0_0_2) : (⟨S4x65536x30, .f32⟩ : BufTy).Contents (Elt F) → (⟨S4x65536x1, .f32⟩ : BufTy).Contents (Elt F)),
    reshape main_v41 main_v42 (rfl : (.f32 : EltTy) = .f32) shapeCasts_S4x65536x1_S4x65536,
    unary main_v17 main_v43 ((extractStridedSlice S4x65536x1 ![0, 0, 3] · slices_S4x65536x30_S4x65536x1_0_0_3) : (⟨S4x65536x30, .f32⟩ : BufTy).Contents (Elt F) → (⟨S4x65536x1, .f32⟩ : BufTy).Contents (Elt F)),
    reshape main_v43 main_v44 (rfl : (.f32 : EltTy) = .f32) shapeCasts_S4x65536x1_S4x65536,
    unary main_v17 main_v45 ((extractStridedSlice S4x65536x1 ![0, 0, 4] · slices_S4x65536x30_S4x65536x1_0_0_4) : (⟨S4x65536x30, .f32⟩ : BufTy).Contents (Elt F) → (⟨S4x65536x1, .f32⟩ : BufTy).Contents (Elt F)),
    reshape main_v45 main_v46 (rfl : (.f32 : EltTy) = .f32) shapeCasts_S4x65536x1_S4x65536,
    unary main_v17 main_v47 ((extractStridedSlice S4x65536x1 ![0, 0, 5] · slices_S4x65536x30_S4x65536x1_0_0_5) : (⟨S4x65536x30, .f32⟩ : BufTy).Contents (Elt F) → (⟨S4x65536x1, .f32⟩ : BufTy).Contents (Elt F)),
    reshape main_v47 main_v48 (rfl : (.f32 : EltTy) = .f32) shapeCasts_S4x65536x1_S4x65536,
    unary main_arg1 main_v49 ((extractStridedSlice S4x65536x1 ![0, 0, 0] · slices_S4x65536x3_S4x65536x1_0_0_0) : (⟨S4x65536x3, .f32⟩ : BufTy).Contents (Elt F) → (⟨S4x65536x1, .f32⟩ : BufTy).Contents (Elt F)),
    reshape main_v49 main_v50 (rfl : (.f32 : EltTy) = .f32) shapeCasts_S4x65536x1_S4x65536,
    unary main_arg1 main_v51 ((extractStridedSlice S4x65536x1 ![0, 0, 1] · slices_S4x65536x3_S4x65536x1_0_0_1) : (⟨S4x65536x3, .f32⟩ : BufTy).Contents (Elt F) → (⟨S4x65536x1, .f32⟩ : BufTy).Contents (Elt F)),
    reshape main_v51 main_v52 (rfl : (.f32 : EltTy) = .f32) shapeCasts_S4x65536x1_S4x65536,
    unary main_arg1 main_v53 ((extractStridedSlice S4x65536x1 ![0, 0, 2] · slices_S4x65536x3_S4x65536x1_0_0_2) : (⟨S4x65536x3, .f32⟩ : BufTy).Contents (Elt F) → (⟨S4x65536x1, .f32⟩ : BufTy).Contents (Elt F)),
    reshape main_v53 main_v54 (rfl : (.f32 : EltTy) = .f32) shapeCasts_S4x65536x1_S4x65536,
    nullary main_c (constantI S_ 32 0#32),
    unary main_c main_v55 (broadcastInDim S4x65536 ![] bcast_S_S4x65536 : (⟨S_, .i32⟩ : BufTy).Contents (Elt F) → (⟨S4x65536, .i32⟩ : BufTy).Contents (Elt F)),
    binary main_v36 main_v55 main_v56 (cmpi .slt : (⟨S4x65536, .i32⟩ : BufTy).Contents (Elt F) → (⟨S4x65536, .i32⟩ : BufTy).Contents (Elt F) → (⟨S4x65536, .i1⟩ : BufTy).Contents (Elt F)),
    nullary main_c_0 (constantI S_ 32 3#32),
    unary main_c_0 main_v57 (broadcastInDim S4x65536 ![] bcast_S_S4x65536 : (⟨S_, .i32⟩ : BufTy).Contents (Elt F) → (⟨S4x65536, .i32⟩ : BufTy).Contents (Elt F)),
    binary main_v36 main_v57 main_v58 (addi : (⟨S4x65536, .i32⟩ : BufTy).Contents (Elt F) → (⟨S4x65536, .i32⟩ : BufTy).Contents (Elt F) → (⟨S4x65536, .i32⟩ : BufTy).Contents (Elt F)),
    ternary main_v56 main_v58 main_v36 main_v59 (select : (⟨S4x65536, .i1⟩ : BufTy).Contents (Elt F) → (⟨S4x65536, .i32⟩ : BufTy).Contents (Elt F) → (⟨S4x65536, .i32⟩ : BufTy).Contents (Elt F) → (⟨S4x65536, .i32⟩ : BufTy).Contents (Elt F)),
    unary main_v59 main_v60 (broadcastInDim S4x65536x1 ![0, 1] bcast_S4x65536_S4x65536x1_0_1 : (⟨S4x65536, .i32⟩ : BufTy).Contents (Elt F) → (⟨S4x65536x1, .i32⟩ : BufTy).Contents (Elt F)),
    binary main_arg18 main_v60 main_v61 ((fun x i => Host.gather gather_S3x3_S4x65536x1_S4x65536x3_2_0_n_n_0_2_13 x i) : (⟨S3x3, .f32⟩ : BufTy).Contents (Elt F) → (⟨S4x65536x1, .i32⟩ : BufTy).Contents (Elt F) → (⟨S4x65536x3, .f32⟩ : BufTy).Contents (Elt F)),
    unary main_v61 main_v62 ((extractStridedSlice S4x65536x1 ![0, 0, 0] · slices_S4x65536x3_S4x65536x1_0_0_0) : (⟨S4x65536x3, .f32⟩ : BufTy).Contents (Elt F) → (⟨S4x65536x1, .f32⟩ : BufTy).Contents (Elt F)),
    reshape main_v62 main_v63 (rfl : (.f32 : EltTy) = .f32) shapeCasts_S4x65536x1_S4x65536,
    unary main_v61 main_v64 ((extractStridedSlice S4x65536x1 ![0, 0, 1] · slices_S4x65536x3_S4x65536x1_0_0_1) : (⟨S4x65536x3, .f32⟩ : BufTy).Contents (Elt F) → (⟨S4x65536x1, .f32⟩ : BufTy).Contents (Elt F)),
    reshape main_v64 main_v65 (rfl : (.f32 : EltTy) = .f32) shapeCasts_S4x65536x1_S4x65536,
    unary main_v61 main_v66 ((extractStridedSlice S4x65536x1 ![0, 0, 2] · slices_S4x65536x3_S4x65536x1_0_0_2) : (⟨S4x65536x3, .f32⟩ : BufTy).Contents (Elt F) → (⟨S4x65536x1, .f32⟩ : BufTy).Contents (Elt F)),
    reshape main_v66 main_v67 (rfl : (.f32 : EltTy) = .f32) shapeCasts_S4x65536x1_S4x65536,
    binary main_v63 main_v63 main_v68 (mulf : (⟨S4x65536, .f32⟩ : BufTy).Contents (Elt F) → (⟨S4x65536, .f32⟩ : BufTy).Contents (Elt F) → (⟨S4x65536, .f32⟩ : BufTy).Contents (Elt F)),
    binary main_v65 main_v65 main_v69 (mulf : (⟨S4x65536, .f32⟩ : BufTy).Contents (Elt F) → (⟨S4x65536, .f32⟩ : BufTy).Contents (Elt F) → (⟨S4x65536, .f32⟩ : BufTy).Contents (Elt F)),
    binary main_v68 main_v69 main_v70 (addf : (⟨S4x65536, .f32⟩ : BufTy).Contents (Elt F) → (⟨S4x65536, .f32⟩ : BufTy).Contents (Elt F) → (⟨S4x65536, .f32⟩ : BufTy).Contents (Elt F)),
    unary main_v70 main_v71 (Host.sqrt : (⟨S4x65536, .f32⟩ : BufTy).Contents (Elt F) → (⟨S4x65536, .f32⟩ : BufTy).Contents (Elt F)),
    binary main_v38 main_v71 main_v72 (mulf : (⟨S4x65536, .f32⟩ : BufTy).Contents (Elt F) → (⟨S4x65536, .f32⟩ : BufTy).Contents (Elt F) → (⟨S4x65536, .f32⟩ : BufTy).Contents (Elt F)),
    binary main_v72 main_v50 main_v73 (addf : (⟨S4x65536, .f32⟩ : BufTy).Contents (Elt F) → (⟨S4x65536, .f32⟩ : BufTy).Contents (Elt F) → (⟨S4x65536, .f32⟩ : BufTy).Contents (Elt F)),
    binary main_v40 main_v71 main_v74 (mulf : (⟨S4x65536, .f32⟩ : BufTy).Contents (Elt F) → (⟨S4x65536, .f32⟩ : BufTy).Contents (Elt F) → (⟨S4x65536, .f32⟩ : BufTy).Contents (Elt F)),
    binary main_v74 main_v52 main_v75 (addf : (⟨S4x65536, .f32⟩ : BufTy).Contents (Elt F) → (⟨S4x65536, .f32⟩ : BufTy).Contents (Elt F) → (⟨S4x65536, .f32⟩ : BufTy).Contents (Elt F)),
    binary main_v42 main_v67 main_v76 (mulf : (⟨S4x65536, .f32⟩ : BufTy).Contents (Elt F) → (⟨S4x65536, .f32⟩ : BufTy).Contents (Elt F) → (⟨S4x65536, .f32⟩ : BufTy).Contents (Elt F)),
    binary main_v76 main_v54 main_v77 (addf : (⟨S4x65536, .f32⟩ : BufTy).Contents (Elt F) → (⟨S4x65536, .f32⟩ : BufTy).Contents (Elt F) → (⟨S4x65536, .f32⟩ : BufTy).Contents (Elt F)),
    unary main_v44 main_v78 (Host.exp : (⟨S4x65536, .f32⟩ : BufTy).Contents (Elt F) → (⟨S4x65536, .f32⟩ : BufTy).Contents (Elt F)),
    binary main_v78 main_v63 main_v79 (mulf : (⟨S4x65536, .f32⟩ : BufTy).Contents (Elt F) → (⟨S4x65536, .f32⟩ : BufTy).Contents (Elt F) → (⟨S4x65536, .f32⟩ : BufTy).Contents (Elt F)),
    unary main_v46 main_v80 (Host.exp : (⟨S4x65536, .f32⟩ : BufTy).Contents (Elt F) → (⟨S4x65536, .f32⟩ : BufTy).Contents (Elt F)),
    binary main_v80 main_v65 main_v81 (mulf : (⟨S4x65536, .f32⟩ : BufTy).Contents (Elt F) → (⟨S4x65536, .f32⟩ : BufTy).Contents (Elt F) → (⟨S4x65536, .f32⟩ : BufTy).Contents (Elt F)),
    unary main_v48 main_v82 (Host.exp : (⟨S4x65536, .f32⟩ : BufTy).Contents (Elt F) → (⟨S4x65536, .f32⟩ : BufTy).Contents (Elt F)),
    binary main_v82 main_v67 main_v83 (mulf : (⟨S4x65536, .f32⟩ : BufTy).Contents (Elt F) → (⟨S4x65536, .f32⟩ : BufTy).Contents (Elt F) → (⟨S4x65536, .f32⟩ : BufTy).Contents (Elt F)),
    unary main_v17 main_v84 ((extractStridedSlice S4x65536x12 ![0, 0, 6] · slices_S4x65536x30_S4x65536x12_0_0_6) : (⟨S4x65536x30, .f32⟩ : BufTy).Contents (Elt F) → (⟨S4x65536x12, .f32⟩ : BufTy).Contents (Elt F)),
    TRef.nullary (TRef.of (T := ⟨S4x65536x12, .i32⟩) main_call3_v0) (iotaInDim S4x65536x12 32 2),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S4x65536x12, .f32⟩) main_v84) (TRef.of (T := ⟨S4x65536x12, .i32⟩) main_call3_v0) (TRef.of (T := ⟨S_, .f32⟩) main_call3_cst) (TRef.of (T := ⟨S_, .i32⟩) main_call3_c) (TRef.of (T := ⟨S4x65536, .f32⟩) main_call3_v1_0) (fun x y u v j => (Host.argReduce reducer_argmax_f32_i32 x y u v reducesTo_S4x65536x12_S4x65536_d2 h_S_ j).1),
    TRef.quaternary (TRef.of (T := ⟨S4x65536x12, .f32⟩) main_v84) (TRef.of (T := ⟨S4x65536x12, .i32⟩) main_call3_v0) (TRef.of (T := ⟨S_, .f32⟩) main_call3_cst) (TRef.of (T := ⟨S_, .i32⟩) main_call3_c) (TRef.of (T := ⟨S4x65536, .i32⟩) main_v85) (fun x y u v j => (Host.argReduce reducer_argmax_f32_i32 x y u v reducesTo_S4x65536x12_S4x65536_d2 h_S_ j).2),
    unary main_v17 main_v86 ((extractStridedSlice S4x65536x12 ![0, 0, 18] · slices_S4x65536x30_S4x65536x12_0_0_18) : (⟨S4x65536x30, .f32⟩ : BufTy).Contents (Elt F) → (⟨S4x65536x12, .f32⟩ : BufTy).Contents (Elt F)),
    unary main_v85 main_v87 (broadcastInDim S4x65536x1 ![0, 1] bcast_S4x65536_S4x65536x1_0_1 : (⟨S4x65536, .i32⟩ : BufTy).Contents (Elt F) → (⟨S4x65536x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S4x65536x1, .i32⟩) main_call4_v0) (broadcastInDim S4x65536x1 ![] bcast_S_S4x65536x1),
    TRef.binary (TRef.of (T := ⟨S4x65536x1, .i32⟩) main_v87) (TRef.of (T := ⟨S4x65536x1, .i32⟩) main_call4_v0) (TRef.of (T := ⟨S4x65536x1, .i1⟩) main_call4_v1) (cmpi .slt),
    TRef.nullary (TRef.of (T := ⟨S_, .i32⟩) main_call4_c_0) (constantI S_ 32 12#32),
    TRef.unary (TRef.of (T := ⟨S_, .i32⟩) main_call4_c_0) (TRef.of (T := ⟨S4x65536x1, .i32⟩) main_call4_v2) (broadcastInDim S4x65536x1 ![] bcast_S_S4x65536x1),
    TRef.binary (TRef.of (T := ⟨S4x65536x1, .i32⟩) main_v87) (TRef.of (T := ⟨S4x65536x1, .i32⟩) main_call4_v2) (TRef.of (T := ⟨S4x65536x1, .i32⟩) main_call4_v3) addi,
    TRef.ternary (TRef.of (T := ⟨S4x65536x1, .i1⟩) main_call4_v1) (TRef.of (T := ⟨S4x65536x1, .i32⟩) main_call4_v3) (TRef.of (T := ⟨S4x65536x1, .i32⟩) main_v87) (TRef.of (T := ⟨S4x65536x1, .i32⟩) main_call4_v4) select,
    TRef.reshape (TRef.of (T := ⟨S4x65536x1, .i32⟩) main_call4_v4) (TRef.of (T := ⟨S4x65536x1x1, .i32⟩) main_call4_v5) (rfl : (.i32 : EltTy) = .i32) shapeCasts_S4x65536x1_S4x65536x1x1,
    TRef.nullary (TRef.of (T := ⟨S1, .i32⟩) main_call4_c_1) (constantI S1 32 11#32),
    TRef.nullary (TRef.of (T := ⟨S_, .i32⟩) main_call4_c_2) (constantI S_ 32 0#32),
    TRef.unary (TRef.of (T := ⟨S_, .i32⟩) main_call4_c_2) (TRef.of (T := ⟨S4x65536x1x1, .i32⟩) main_call4_v6) (broadcastInDim S4x65536x1x1 ![] bcast_S_S4x65536x1x1),
    TRef.binary (TRef.of (T := ⟨S4x65536x1x1, .i32⟩) main_call4_v5) (TRef.of (T := ⟨S4x65536x1x1, .i32⟩) main_call4_v6) (TRef.of (T := ⟨S4x65536x1x1, .i1⟩) main_call4_v7) (cmpi .sge),
    TRef.unary (TRef.of (T := ⟨S1, .i32⟩) main_call4_c_1) (TRef.of (T := ⟨S1x1x1x1, .i32⟩) main_call4_v8) (broadcastInDim S1x1x1x1 ![3] bcast_S1_S1x1x1x1_3),
    TRef.unary (TRef.of (T := ⟨S1x1x1x1, .i32⟩) main_call4_v8) (TRef.of (T := ⟨S4x65536x1x1, .i32⟩) main_call4_v9) (broadcastInDim S4x65536x1x1 ![0, 1, 2, 3] bcast_S1x1x1x1_S4x65536x1x1_0_1_2_3),
    TRef.binary (TRef.of (T := ⟨S4x65536x1x1, .i32⟩) main_call4_v5) (TRef.of (T := ⟨S4x65536x1x1, .i32⟩) main_call4_v9) (TRef.of (T := ⟨S4x65536x1x1, .i1⟩) main_call4_v10) (cmpi .sle),
    TRef.binary (TRef.of (T := ⟨S4x65536x1x1, .i1⟩) main_call4_v7) (TRef.of (T := ⟨S4x65536x1x1, .i1⟩) main_call4_v10) (TRef.of (T := ⟨S4x65536x1x1, .i1⟩) main_call4_v11) andi,
    TRef.nullary (TRef.of (T := ⟨S_, .i1⟩) main_call4_c_3) (constantI S_ 1 1#1),
    TRef.binary (TRef.of (T := ⟨S4x65536x1x1, .i1⟩) main_call4_v11) (TRef.of (T := ⟨S_, .i1⟩) main_call4_c_3) (TRef.of (T := ⟨S4x65536x1, .i1⟩) main_call4_v12) (fun x v => Host.reduce IntOp.andi x v reducesTo_S4x65536x1x1_S4x65536x1_d3 h_S_),
    TRef.binary (TRef.of (T := ⟨S4x65536x12, .f32⟩) main_v86) (TRef.of (T := ⟨S4x65536x1x1, .i32⟩) main_call4_v5) (TRef.of (T := ⟨S4x65536x1, .f32⟩) main_call4_v13) (fun x i => Host.gather gather_S4x65536x12_S4x65536x1x1_S4x65536x1_n_2_01_01_2_3_111 x i),
    TRef.nullary (TRef.of (T := ⟨S_, .f32⟩) main_call4_cst) (constant S_ .f32 0x7FC00000#32),
    TRef.unary (TRef.of (T := ⟨S_, .f32⟩) main_call4_cst) (TRef.of (T := ⟨S4x65536x1, .f32⟩) main_call4_v14) (broadcastInDim S4x65536x1 ![] bcast_S_S4x65536x1),
    TRef.ternary (TRef.of (T := ⟨S4x65536x1, .i1⟩) main_call4_v12) (TRef.of (T := ⟨S4x65536x1, .f32⟩) main_call4_v13) (TRef.of (T := ⟨S4x65536x1, .f32⟩) main_call4_v14) (TRef.of (T := ⟨S4x65536x1, .f32⟩) main_v88) select,
    reshape main_v88 main_v89 (rfl : (.f32 : EltTy) = .f32) shapeCasts_S4x65536x1_S4x65536,
    unary main_v85 main_v90 (sitofp .f32 : (⟨S4x65536, .i32⟩ : BufTy).Contents (Elt F) → (⟨S4x65536, .f32⟩ : BufTy).Contents (Elt F)),
    nullary main_cst (constant S_ .f32 0x3F060A92#32),
    unary main_cst main_v91 (broadcastInDim S4x65536 ![] bcast_S_S4x65536 : (⟨S_, .f32⟩ : BufTy).Contents (Elt F) → (⟨S4x65536, .f32⟩ : BufTy).Contents (Elt F)),
    binary main_v90 main_v91 main_v92 (mulf : (⟨S4x65536, .f32⟩ : BufTy).Contents (Elt F) → (⟨S4x65536, .f32⟩ : BufTy).Contents (Elt F) → (⟨S4x65536, .f32⟩ : BufTy).Contents (Elt F)),
    binary main_v92 main_v89 main_v93 (addf : (⟨S4x65536, .f32⟩ : BufTy).Contents (Elt F) → (⟨S4x65536, .f32⟩ : BufTy).Contents (Elt F) → (⟨S4x65536, .f32⟩ : BufTy).Contents (Elt F)),
    unary main_v73 main_v94 (broadcastInDim S4x65536x1 ![0, 1] bcast_S4x65536_S4x65536x1_0_1 : (⟨S4x65536, .f32⟩ : BufTy).Contents (Elt F) → (⟨S4x65536x1, .f32⟩ : BufTy).Contents (Elt F)),
    unary main_v75 main_v95 (broadcastInDim S4x65536x1 ![0, 1] bcast_S4x65536_S4x65536x1_0_1 : (⟨S4x65536, .f32⟩ : BufTy).Contents (Elt F) → (⟨S4x65536x1, .f32⟩ : BufTy).Contents (Elt F)),
    unary main_v77 main_v96 (broadcastInDim S4x65536x1 ![0, 1] bcast_S4x65536_S4x65536x1_0_1 : (⟨S4x65536, .f32⟩ : BufTy).Contents (Elt F) → (⟨S4x65536x1, .f32⟩ : BufTy).Contents (Elt F)),
    unary main_v79 main_v97 (broadcastInDim S4x65536x1 ![0, 1] bcast_S4x65536_S4x65536x1_0_1 : (⟨S4x65536, .f32⟩ : BufTy).Contents (Elt F) → (⟨S4x65536x1, .f32⟩ : BufTy).Contents (Elt F)),
    unary main_v81 main_v98 (broadcastInDim S4x65536x1 ![0, 1] bcast_S4x65536_S4x65536x1_0_1 : (⟨S4x65536, .f32⟩ : BufTy).Contents (Elt F) → (⟨S4x65536x1, .f32⟩ : BufTy).Contents (Elt F)),
    unary main_v83 main_v99 (broadcastInDim S4x65536x1 ![0, 1] bcast_S4x65536_S4x65536x1_0_1 : (⟨S4x65536, .f32⟩ : BufTy).Contents (Elt F) → (⟨S4x65536x1, .f32⟩ : BufTy).Contents (Elt F)),
    unary main_v93 main_v100 (broadcastInDim S4x65536x1 ![0, 1] bcast_S4x65536_S4x65536x1_0_1 : (⟨S4x65536, .f32⟩ : BufTy).Contents (Elt F) → (⟨S4x65536x1, .f32⟩ : BufTy).Contents (Elt F)),
    nary ![main_v94, main_v95, main_v96, main_v97, main_v98, main_v99, main_v100] main_v101 (fun u => (concatenate S4x65536x7 2 [⟨S4x65536x1, (u 0 : (⟨S4x65536x1, .f32⟩ : BufTy).Contents (Elt F))⟩, ⟨S4x65536x1, (u 1 : (⟨S4x65536x1, .f32⟩ : BufTy).Contents (Elt F))⟩, ⟨S4x65536x1, (u 2 : (⟨S4x65536x1, .f32⟩ : BufTy).Contents (Elt F))⟩, ⟨S4x65536x1, (u 3 : (⟨S4x65536x1, .f32⟩ : BufTy).Contents (Elt F))⟩, ⟨S4x65536x1, (u 4 : (⟨S4x65536x1, .f32⟩ : BufTy).Contents (Elt F))⟩, ⟨S4x65536x1, (u 5 : (⟨S4x65536x1, .f32⟩ : BufTy).Contents (Elt F))⟩, ⟨S4x65536x1, (u 6 : (⟨S4x65536x1, .f32⟩ : BufTy).Contents (Elt F))⟩] concatenates_S4x65536x1_S4x65536x1_S4x65536x1_S4x65536x1_S4x65536x1_S4x65536x1_S4x65536x1_S4x65536x7_d2 : (⟨S4x65536x7, .f32⟩ : BufTy).Contents (Elt F))) ]

/-- The operations over the extended reals. -/
abbrev ops : List (HloOp τ sig (Elt Ideal)) := gops

/-- The buffers the operations write, in order. -/
def written : List (Ref sig .tc) :=
  [main_v0, main_v1, main_v2, main_v3, main_v4, main_v5, main_v6, main_v7, main_v8, main_v9, main_v10, main_call0_cst, main_call0_v0, main_v11, main_v12, main_v13, main_v14, main_v15, main_v16, main_v17, main_v18, main_v19, main_v20, main_v21, main_v22, main_v23, main_v24, main_v25, main_v26, main_v27, main_v28, main_call1_cst, main_call1_v0, main_v29, main_v30, main_v31, main_v32, main_v33, main_v34, main_v35, main_call2_v0, main_call2_cst, main_call2_c, main_call2_v1_0, main_v36, main_v37, main_v38, main_v39, main_v40, main_v41, main_v42, main_v43, main_v44, main_v45, main_v46, main_v47, main_v48, main_v49, main_v50, main_v51, main_v52, main_v53, main_v54, main_c, main_v55, main_v56, main_c_0, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_call3_v0, main_call3_cst, main_call3_c, main_call3_v1_0, main_v85, main_v86, main_v87, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v88, main_v89, main_v90, main_cst, main_v91, main_v92, main_v93, main_v94, main_v95, main_v96, main_v97, main_v98, main_v99, main_v100, main_v101]

theorem main_eq (c : Dev nD) : main (F := Ideal) c = seq ops := rfl

theorem ops_writes : ops.map HloOp.writes = written.map fun r => {Proc.devRef (τ := τ) .tc r} := rfl

theorem scoped_refs : (Finset.univ.filter fun b : Ref sig .tc => b.isScoped) = ∅ := by decide

theorem scoped_sems : (Finset.univ.filter fun sm : SemLoc sig => sm.isScoped .tc) = ∅ := by decide

theorem ops_bufs : ops.Forall fun op => op.bufs ⊆ tcRefs τ sig :=
  ⟨
binary_bufs_sub ..,
   unary_bufs_sub ..,
   unary_bufs_sub ..,
   unary_bufs_sub ..,
   binary_bufs_sub ..,
   unary_bufs_sub ..,
   unary_bufs_sub ..,
   binary_bufs_sub ..,
   unary_bufs_sub ..,
   unary_bufs_sub ..,
   binary_bufs_sub ..,
   nullary_bufs_sub ..,
   unary_bufs_sub ..,
   binary_bufs_sub ..,
   binary_bufs_sub ..,
   unary_bufs_sub ..,
   unary_bufs_sub ..,
   unary_bufs_sub ..,
   binary_bufs_sub ..,
   unary_bufs_sub ..,
   binary_bufs_sub ..,
   unary_bufs_sub ..,
   unary_bufs_sub ..,
   unary_bufs_sub ..,
   binary_bufs_sub ..,
   unary_bufs_sub ..,
   unary_bufs_sub ..,
   binary_bufs_sub ..,
   unary_bufs_sub ..,
   unary_bufs_sub ..,
   binary_bufs_sub ..,
   nullary_bufs_sub ..,
   unary_bufs_sub ..,
   binary_bufs_sub ..,
   binary_bufs_sub ..,
   unary_bufs_sub ..,
   unary_bufs_sub ..,
   unary_bufs_sub ..,
   binary_bufs_sub ..,
   unary_bufs_sub ..,
   nullary_bufs_sub ..,
   nullary_bufs_sub ..,
   nullary_bufs_sub ..,
   quaternary_bufs_sub ..,
   quaternary_bufs_sub ..,
   unary_bufs_sub ..,
   reshape_bufs_sub ..,
   unary_bufs_sub ..,
   reshape_bufs_sub ..,
   unary_bufs_sub ..,
   reshape_bufs_sub ..,
   unary_bufs_sub ..,
   reshape_bufs_sub ..,
   unary_bufs_sub ..,
   reshape_bufs_sub ..,
   unary_bufs_sub ..,
   reshape_bufs_sub ..,
   unary_bufs_sub ..,
   reshape_bufs_sub ..,
   unary_bufs_sub ..,
   reshape_bufs_sub ..,
   unary_bufs_sub ..,
   reshape_bufs_sub ..,
   nullary_bufs_sub ..,
   unary_bufs_sub ..,
   binary_bufs_sub ..,
   nullary_bufs_sub ..,
   unary_bufs_sub ..,
   binary_bufs_sub ..,
   ternary_bufs_sub ..,
   unary_bufs_sub ..,
   binary_bufs_sub ..,
   unary_bufs_sub ..,
   reshape_bufs_sub ..,
   unary_bufs_sub ..,
   reshape_bufs_sub ..,
   unary_bufs_sub ..,
   reshape_bufs_sub ..,
   binary_bufs_sub ..,
   binary_bufs_sub ..,
   binary_bufs_sub ..,
   unary_bufs_sub ..,
   binary_bufs_sub ..,
   binary_bufs_sub ..,
   binary_bufs_sub ..,
   binary_bufs_sub ..,
   binary_bufs_sub ..,
   binary_bufs_sub ..,
   unary_bufs_sub ..,
   binary_bufs_sub ..,
   unary_bufs_sub ..,
   binary_bufs_sub ..,
   unary_bufs_sub ..,
   binary_bufs_sub ..,
   unary_bufs_sub ..,
   nullary_bufs_sub ..,
   nullary_bufs_sub ..,
   nullary_bufs_sub ..,
   quaternary_bufs_sub ..,
   quaternary_bufs_sub ..,
   unary_bufs_sub ..,
   unary_bufs_sub ..,
   nullary_bufs_sub ..,
   unary_bufs_sub ..,
   binary_bufs_sub ..,
   nullary_bufs_sub ..,
   unary_bufs_sub ..,
   binary_bufs_sub ..,
   ternary_bufs_sub ..,
   reshape_bufs_sub ..,
   nullary_bufs_sub ..,
   nullary_bufs_sub ..,
   unary_bufs_sub ..,
   binary_bufs_sub ..,
   unary_bufs_sub ..,
   unary_bufs_sub ..,
   binary_bufs_sub ..,
   binary_bufs_sub ..,
   nullary_bufs_sub ..,
   binary_bufs_sub ..,
   binary_bufs_sub ..,
   nullary_bufs_sub ..,
   unary_bufs_sub ..,
   ternary_bufs_sub ..,
   reshape_bufs_sub ..,
   unary_bufs_sub ..,
   nullary_bufs_sub ..,
   unary_bufs_sub ..,
   binary_bufs_sub ..,
   binary_bufs_sub ..,
   unary_bufs_sub ..,
   unary_bufs_sub ..,
   unary_bufs_sub ..,
   unary_bufs_sub ..,
   unary_bufs_sub ..,
   unary_bufs_sub ..,
   unary_bufs_sub ..,
   nary_bufs_sub ..⟩

/-- Every weakly fair execution of the reference terminates with every buffer at the fold of the operations. -/
theorem run_fold (m : (ℓ : Loc nD τ sig) → Buf (Elt Ideal) ℓ) (ρ : Dev nD → PrngReg) :
    θ_run defs (onTc (τ := τ) (main (F := Ideal))) ⟨m, fun _ => 0, ρ⟩ fun r =>
      ∀ (c : Dev nD) (b : Ref sig .tc), r.2.mem ((c.tc : Thread nD τ).loc b) = after ops (launchContents m c) (Proc.devRef .tc b) :=
  run_seq scoped_refs scoped_sems defs main (fun _ => ops) main_eq (fun _ => ops_bufs) m ρ

variable (V : Valuation τ sig (Elt Ideal))

/-- The contents of `main_arg0`. -/
def rv_arg0 : FVec Ideal S4x256x65536 .f32 := V (Proc.devRef .tc main_arg0)
/-- The contents of `main_arg1`. -/
def rv_arg1 : FVec Ideal S4x65536x3 .f32 := V (Proc.devRef .tc main_arg1)
/-- The contents of `main_arg2`. -/
def rv_arg2 : FVec Ideal S4x65536x3 .f32 := V (Proc.devRef .tc main_arg2)
/-- The contents of `main_arg3`. -/
def rv_arg3 : FVec Ideal S2x4x65536x3 .f32 := V (Proc.devRef .tc main_arg3)
/-- The contents of `main_arg4`. -/
def rv_arg4 : FVec Ideal S4x64x7 .f32 := V (Proc.devRef .tc main_arg4)
/-- The contents of `main_arg5`. -/
def rv_arg5 : IVec S4x64 32 := V (Proc.devRef .tc main_arg5)
/-- The contents of `main_arg6`. -/
def rv_arg6 : FVec Ideal S128x256 .f32 := V (Proc.devRef .tc main_arg6)
/-- The contents of `main_arg7`. -/
def rv_arg7 : FVec Ideal S128 .f32 := V (Proc.devRef .tc main_arg7)
/-- The contents of `main_arg8`. -/
def rv_arg8 : FVec Ideal S128 .f32 := V (Proc.devRef .tc main_arg8)
/-- The contents of `main_arg9`. -/
def rv_arg9 : FVec Ideal S128 .f32 := V (Proc.devRef .tc main_arg9)
/-- The contents of `main_arg10`. -/
def rv_arg10 : FVec Ideal S30x128 .f32 := V (Proc.devRef .tc main_arg10)
/-- The contents of `main_arg11`. -/
def rv_arg11 : FVec Ideal S30 .f32 := V (Proc.devRef .tc main_arg11)
/-- The contents of `main_arg12`. -/
def rv_arg12 : FVec Ideal S128x256 .f32 := V (Proc.devRef .tc main_arg12)
/-- The contents of `main_arg13`. -/
def rv_arg13 : FVec Ideal S128 .f32 := V (Proc.devRef .tc main_arg13)
/-- The contents of `main_arg14`. -/
def rv_arg14 : FVec Ideal S128 .f32 := V (Proc.devRef .tc main_arg14)
/-- The contents of `main_arg15`. -/
def rv_arg15 : FVec Ideal S128 .f32 := V (Proc.devRef .tc main_arg15)
/-- The contents of `main_arg16`. -/
def rv_arg16 : FVec Ideal S3x128 .f32 := V (Proc.devRef .tc main_arg16)
/-- The contents of `main_arg17`. -/
def rv_arg17 : FVec Ideal S3 .f32 := V (Proc.devRef .tc main_arg17)
/-- The contents of `main_arg18`. -/
def rv_arg18 : FVec Ideal S3x3 .f32 := V (Proc.devRef .tc main_arg18)

/-- What `main_v0` holds at the end. -/
def rv_v0 : FVec Ideal S4x65536x128 .f32 := after ops V (Proc.devRef .tc main_v0)
/-- What `main_v1` holds at the end. -/
def rv_v1 : FVec Ideal S4x128x65536 .f32 := after ops V (Proc.devRef .tc main_v1)
/-- What `main_v2` holds at the end. -/
def rv_v2 : FVec Ideal S1x128x1 .f32 := after ops V (Proc.devRef .tc main_v2)
/-- What `main_v3` holds at the end. -/
def rv_v3 : FVec Ideal S4x128x65536 .f32 := after ops V (Proc.devRef .tc main_v3)
/-- What `main_v4` holds at the end. -/
def rv_v4 : FVec Ideal S4x128x65536 .f32 := after ops V (Proc.devRef .tc main_v4)
/-- What `main_v5` holds at the end. -/
def rv_v5 : FVec Ideal S1x128x1 .f32 := after ops V (Proc.devRef .tc main_v5)
/-- What `main_v6` holds at the end. -/
def rv_v6 : FVec Ideal S4x128x65536 .f32 := after ops V (Proc.devRef .tc main_v6)
/-- What `main_v7` holds at the end. -/
def rv_v7 : FVec Ideal S4x128x65536 .f32 := after ops V (Proc.devRef .tc main_v7)
/-- What `main_v8` holds at the end. -/
def rv_v8 : FVec Ideal S1x128x1 .f32 := after ops V (Proc.devRef .tc main_v8)
/-- What `main_v9` holds at the end. -/
def rv_v9 : FVec Ideal S4x128x65536 .f32 := after ops V (Proc.devRef .tc main_v9)
/-- What `main_v10` holds at the end. -/
def rv_v10 : FVec Ideal S4x128x65536 .f32 := after ops V (Proc.devRef .tc main_v10)
/-- What `main_call0_cst` holds at the end. -/
def rv_call0_cst : FVec Ideal S_ .f32 := after ops V (Proc.devRef .tc main_call0_cst)
/-- What `main_call0_v0` holds at the end. -/
def rv_call0_v0 : FVec Ideal S4x128x65536 .f32 := after ops V (Proc.devRef .tc main_call0_v0)
/-- What `main_v11` holds at the end. -/
def rv_v11 : FVec Ideal S4x128x65536 .f32 := after ops V (Proc.devRef .tc main_v11)
/-- What `main_v12` holds at the end. -/
def rv_v12 : FVec Ideal S4x65536x30 .f32 := after ops V (Proc.devRef .tc main_v12)
/-- What `main_v13` holds at the end. -/
def rv_v13 : FVec Ideal S4x30x65536 .f32 := after ops V (Proc.devRef .tc main_v13)
/-- What `main_v14` holds at the end. -/
def rv_v14 : FVec Ideal S1x30x1 .f32 := after ops V (Proc.devRef .tc main_v14)
/-- What `main_v15` holds at the end. -/
def rv_v15 : FVec Ideal S4x30x65536 .f32 := after ops V (Proc.devRef .tc main_v15)
/-- What `main_v16` holds at the end. -/
def rv_v16 : FVec Ideal S4x30x65536 .f32 := after ops V (Proc.devRef .tc main_v16)
/-- What `main_v17` holds at the end. -/
def rv_v17 : FVec Ideal S4x65536x30 .f32 := after ops V (Proc.devRef .tc main_v17)
/-- What `main_v18` holds at the end. -/
def rv_v18 : FVec Ideal S4x65536x128 .f32 := after ops V (Proc.devRef .tc main_v18)
/-- What `main_v19` holds at the end. -/
def rv_v19 : FVec Ideal S4x128x65536 .f32 := after ops V (Proc.devRef .tc main_v19)
/-- What `main_v20` holds at the end. -/
def rv_v20 : FVec Ideal S1x128x1 .f32 := after ops V (Proc.devRef .tc main_v20)
/-- What `main_v21` holds at the end. -/
def rv_v21 : FVec Ideal S4x128x65536 .f32 := after ops V (Proc.devRef .tc main_v21)
/-- What `main_v22` holds at the end. -/
def rv_v22 : FVec Ideal S4x128x65536 .f32 := after ops V (Proc.devRef .tc main_v22)
/-- What `main_v23` holds at the end. -/
def rv_v23 : FVec Ideal S1x128x1 .f32 := after ops V (Proc.devRef .tc main_v23)
/-- What `main_v24` holds at the end. -/
def rv_v24 : FVec Ideal S4x128x65536 .f32 := after ops V (Proc.devRef .tc main_v24)
/-- What `main_v25` holds at the end. -/
def rv_v25 : FVec Ideal S4x128x65536 .f32 := after ops V (Proc.devRef .tc main_v25)
/-- What `main_v26` holds at the end. -/
def rv_v26 : FVec Ideal S1x128x1 .f32 := after ops V (Proc.devRef .tc main_v26)
/-- What `main_v27` holds at the end. -/
def rv_v27 : FVec Ideal S4x128x65536 .f32 := after ops V (Proc.devRef .tc main_v27)
/-- What `main_v28` holds at the end. -/
def rv_v28 : FVec Ideal S4x128x65536 .f32 := after ops V (Proc.devRef .tc main_v28)
/-- What `main_call1_cst` holds at the end. -/
def rv_call1_cst : FVec Ideal S_ .f32 := after ops V (Proc.devRef .tc main_call1_cst)
/-- What `main_call1_v0` holds at the end. -/
def rv_call1_v0 : FVec Ideal S4x128x65536 .f32 := after ops V (Proc.devRef .tc main_call1_v0)
/-- What `main_v29` holds at the end. -/
def rv_v29 : FVec Ideal S4x128x65536 .f32 := after ops V (Proc.devRef .tc main_v29)
/-- What `main_v30` holds at the end. -/
def rv_v30 : FVec Ideal S4x65536x3 .f32 := after ops V (Proc.devRef .tc main_v30)
/-- What `main_v31` holds at the end. -/
def rv_v31 : FVec Ideal S4x3x65536 .f32 := after ops V (Proc.devRef .tc main_v31)
/-- What `main_v32` holds at the end. -/
def rv_v32 : FVec Ideal S1x3x1 .f32 := after ops V (Proc.devRef .tc main_v32)
/-- What `main_v33` holds at the end. -/
def rv_v33 : FVec Ideal S4x3x65536 .f32 := after ops V (Proc.devRef .tc main_v33)
/-- What `main_v34` holds at the end. -/
def rv_v34 : FVec Ideal S4x3x65536 .f32 := after ops V (Proc.devRef .tc main_v34)
/-- What `main_v35` holds at the end. -/
def rv_v35 : FVec Ideal S4x65536x3 .f32 := after ops V (Proc.devRef .tc main_v35)
/-- What `main_call2_v0` holds at the end. -/
def rv_call2_v0 : IVec S4x65536x3 32 := after ops V (Proc.devRef .tc main_call2_v0)
/-- What `main_call2_cst` holds at the end. -/
def rv_call2_cst : FVec Ideal S_ .f32 := after ops V (Proc.devRef .tc main_call2_cst)
/-- What `main_call2_c` holds at the end. -/
def rv_call2_c : IVec S_ 32 := after ops V (Proc.devRef .tc main_call2_c)
/-- What `main_call2_v1_0` holds at the end. -/
def rv_call2_v1_0 : FVec Ideal S4x65536 .f32 := after ops V (Proc.devRef .tc main_call2_v1_0)
/-- What `main_v36` holds at the end. -/
def rv_v36 : IVec S4x65536 32 := after ops V (Proc.devRef .tc main_v36)
/-- What `main_v37` holds at the end. -/
def rv_v37 : FVec Ideal S4x65536x1 .f32 := after ops V (Proc.devRef .tc main_v37)
/-- What `main_v38` holds at the end. -/
def rv_v38 : FVec Ideal S4x65536 .f32 := after ops V (Proc.devRef .tc main_v38)
/-- What `main_v39` holds at the end. -/
def rv_v39 : FVec Ideal S4x65536x1 .f32 := after ops V (Proc.devRef .tc main_v39)
/-- What `main_v40` holds at the end. -/
def rv_v40 : FVec Ideal S4x65536 .f32 := after ops V (Proc.devRef .tc main_v40)
/-- What `main_v41` holds at the end. -/
def rv_v41 : FVec Ideal S4x65536x1 .f32 := after ops V (Proc.devRef .tc main_v41)
/-- What `main_v42` holds at the end. -/
def rv_v42 : FVec Ideal S4x65536 .f32 := after ops V (Proc.devRef .tc main_v42)
/-- What `main_v43` holds at the end. -/
def rv_v43 : FVec Ideal S4x65536x1 .f32 := after ops V (Proc.devRef .tc main_v43)
/-- What `main_v44` holds at the end. -/
def rv_v44 : FVec Ideal S4x65536 .f32 := after ops V (Proc.devRef .tc main_v44)
/-- What `main_v45` holds at the end. -/
def rv_v45 : FVec Ideal S4x65536x1 .f32 := after ops V (Proc.devRef .tc main_v45)
/-- What `main_v46` holds at the end. -/
def rv_v46 : FVec Ideal S4x65536 .f32 := after ops V (Proc.devRef .tc main_v46)
/-- What `main_v47` holds at the end. -/
def rv_v47 : FVec Ideal S4x65536x1 .f32 := after ops V (Proc.devRef .tc main_v47)
/-- What `main_v48` holds at the end. -/
def rv_v48 : FVec Ideal S4x65536 .f32 := after ops V (Proc.devRef .tc main_v48)
/-- What `main_v49` holds at the end. -/
def rv_v49 : FVec Ideal S4x65536x1 .f32 := after ops V (Proc.devRef .tc main_v49)
/-- What `main_v50` holds at the end. -/
def rv_v50 : FVec Ideal S4x65536 .f32 := after ops V (Proc.devRef .tc main_v50)
/-- What `main_v51` holds at the end. -/
def rv_v51 : FVec Ideal S4x65536x1 .f32 := after ops V (Proc.devRef .tc main_v51)
/-- What `main_v52` holds at the end. -/
def rv_v52 : FVec Ideal S4x65536 .f32 := after ops V (Proc.devRef .tc main_v52)
/-- What `main_v53` holds at the end. -/
def rv_v53 : FVec Ideal S4x65536x1 .f32 := after ops V (Proc.devRef .tc main_v53)
/-- What `main_v54` holds at the end. -/
def rv_v54 : FVec Ideal S4x65536 .f32 := after ops V (Proc.devRef .tc main_v54)
/-- What `main_c` holds at the end. -/
def rv_c : IVec S_ 32 := after ops V (Proc.devRef .tc main_c)
/-- What `main_v55` holds at the end. -/
def rv_v55 : IVec S4x65536 32 := after ops V (Proc.devRef .tc main_v55)
/-- What `main_v56` holds at the end. -/
def rv_v56 : IVec S4x65536 1 := after ops V (Proc.devRef .tc main_v56)
/-- What `main_c_0` holds at the end. -/
def rv_c_0 : IVec S_ 32 := after ops V (Proc.devRef .tc main_c_0)
/-- What `main_v57` holds at the end. -/
def rv_v57 : IVec S4x65536 32 := after ops V (Proc.devRef .tc main_v57)
/-- What `main_v58` holds at the end. -/
def rv_v58 : IVec S4x65536 32 := after ops V (Proc.devRef .tc main_v58)
/-- What `main_v59` holds at the end. -/
def rv_v59 : IVec S4x65536 32 := after ops V (Proc.devRef .tc main_v59)
/-- What `main_v60` holds at the end. -/
def rv_v60 : IVec S4x65536x1 32 := after ops V (Proc.devRef .tc main_v60)
/-- What `main_v61` holds at the end. -/
def rv_v61 : FVec Ideal S4x65536x3 .f32 := after ops V (Proc.devRef .tc main_v61)
/-- What `main_v62` holds at the end. -/
def rv_v62 : FVec Ideal S4x65536x1 .f32 := after ops V (Proc.devRef .tc main_v62)
/-- What `main_v63` holds at the end. -/
def rv_v63 : FVec Ideal S4x65536 .f32 := after ops V (Proc.devRef .tc main_v63)
/-- What `main_v64` holds at the end. -/
def rv_v64 : FVec Ideal S4x65536x1 .f32 := after ops V (Proc.devRef .tc main_v64)
/-- What `main_v65` holds at the end. -/
def rv_v65 : FVec Ideal S4x65536 .f32 := after ops V (Proc.devRef .tc main_v65)
/-- What `main_v66` holds at the end. -/
def rv_v66 : FVec Ideal S4x65536x1 .f32 := after ops V (Proc.devRef .tc main_v66)
/-- What `main_v67` holds at the end. -/
def rv_v67 : FVec Ideal S4x65536 .f32 := after ops V (Proc.devRef .tc main_v67)
/-- What `main_v68` holds at the end. -/
def rv_v68 : FVec Ideal S4x65536 .f32 := after ops V (Proc.devRef .tc main_v68)
/-- What `main_v69` holds at the end. -/
def rv_v69 : FVec Ideal S4x65536 .f32 := after ops V (Proc.devRef .tc main_v69)
/-- What `main_v70` holds at the end. -/
def rv_v70 : FVec Ideal S4x65536 .f32 := after ops V (Proc.devRef .tc main_v70)
/-- What `main_v71` holds at the end. -/
def rv_v71 : FVec Ideal S4x65536 .f32 := after ops V (Proc.devRef .tc main_v71)
/-- What `main_v72` holds at the end. -/
def rv_v72 : FVec Ideal S4x65536 .f32 := after ops V (Proc.devRef .tc main_v72)
/-- What `main_v73` holds at the end. -/
def rv_v73 : FVec Ideal S4x65536 .f32 := after ops V (Proc.devRef .tc main_v73)
/-- What `main_v74` holds at the end. -/
def rv_v74 : FVec Ideal S4x65536 .f32 := after ops V (Proc.devRef .tc main_v74)
/-- What `main_v75` holds at the end. -/
def rv_v75 : FVec Ideal S4x65536 .f32 := after ops V (Proc.devRef .tc main_v75)
/-- What `main_v76` holds at the end. -/
def rv_v76 : FVec Ideal S4x65536 .f32 := after ops V (Proc.devRef .tc main_v76)
/-- What `main_v77` holds at the end. -/
def rv_v77 : FVec Ideal S4x65536 .f32 := after ops V (Proc.devRef .tc main_v77)
/-- What `main_v78` holds at the end. -/
def rv_v78 : FVec Ideal S4x65536 .f32 := after ops V (Proc.devRef .tc main_v78)
/-- What `main_v79` holds at the end. -/
def rv_v79 : FVec Ideal S4x65536 .f32 := after ops V (Proc.devRef .tc main_v79)
/-- What `main_v80` holds at the end. -/
def rv_v80 : FVec Ideal S4x65536 .f32 := after ops V (Proc.devRef .tc main_v80)
/-- What `main_v81` holds at the end. -/
def rv_v81 : FVec Ideal S4x65536 .f32 := after ops V (Proc.devRef .tc main_v81)
/-- What `main_v82` holds at the end. -/
def rv_v82 : FVec Ideal S4x65536 .f32 := after ops V (Proc.devRef .tc main_v82)
/-- What `main_v83` holds at the end. -/
def rv_v83 : FVec Ideal S4x65536 .f32 := after ops V (Proc.devRef .tc main_v83)
/-- What `main_v84` holds at the end. -/
def rv_v84 : FVec Ideal S4x65536x12 .f32 := after ops V (Proc.devRef .tc main_v84)
/-- What `main_call3_v0` holds at the end. -/
def rv_call3_v0 : IVec S4x65536x12 32 := after ops V (Proc.devRef .tc main_call3_v0)
/-- What `main_call3_cst` holds at the end. -/
def rv_call3_cst : FVec Ideal S_ .f32 := after ops V (Proc.devRef .tc main_call3_cst)
/-- What `main_call3_c` holds at the end. -/
def rv_call3_c : IVec S_ 32 := after ops V (Proc.devRef .tc main_call3_c)
/-- What `main_call3_v1_0` holds at the end. -/
def rv_call3_v1_0 : FVec Ideal S4x65536 .f32 := after ops V (Proc.devRef .tc main_call3_v1_0)
/-- What `main_v85` holds at the end. -/
def rv_v85 : IVec S4x65536 32 := after ops V (Proc.devRef .tc main_v85)
/-- What `main_v86` holds at the end. -/
def rv_v86 : FVec Ideal S4x65536x12 .f32 := after ops V (Proc.devRef .tc main_v86)
/-- What `main_v87` holds at the end. -/
def rv_v87 : IVec S4x65536x1 32 := after ops V (Proc.devRef .tc main_v87)
/-- What `main_call4_c` holds at the end. -/
def rv_call4_c : IVec S_ 32 := after ops V (Proc.devRef .tc main_call4_c)
/-- What `main_call4_v0` holds at the end. -/
def rv_call4_v0 : IVec S4x65536x1 32 := after ops V (Proc.devRef .tc main_call4_v0)
/-- What `main_call4_v1` holds at the end. -/
def rv_call4_v1 : IVec S4x65536x1 1 := after ops V (Proc.devRef .tc main_call4_v1)
/-- What `main_call4_c_0` holds at the end. -/
def rv_call4_c_0 : IVec S_ 32 := after ops V (Proc.devRef .tc main_call4_c_0)
/-- What `main_call4_v2` holds at the end. -/
def rv_call4_v2 : IVec S4x65536x1 32 := after ops V (Proc.devRef .tc main_call4_v2)
/-- What `main_call4_v3` holds at the end. -/
def rv_call4_v3 : IVec S4x65536x1 32 := after ops V (Proc.devRef .tc main_call4_v3)
/-- What `main_call4_v4` holds at the end. -/
def rv_call4_v4 : IVec S4x65536x1 32 := after ops V (Proc.devRef .tc main_call4_v4)
/-- What `main_call4_v5` holds at the end. -/
def rv_call4_v5 : IVec S4x65536x1x1 32 := after ops V (Proc.devRef .tc main_call4_v5)
/-- What `main_call4_c_1` holds at the end. -/
def rv_call4_c_1 : IVec S1 32 := after ops V (Proc.devRef .tc main_call4_c_1)
/-- What `main_call4_c_2` holds at the end. -/
def rv_call4_c_2 : IVec S_ 32 := after ops V (Proc.devRef .tc main_call4_c_2)
/-- What `main_call4_v6` holds at the end. -/
def rv_call4_v6 : IVec S4x65536x1x1 32 := after ops V (Proc.devRef .tc main_call4_v6)
/-- What `main_call4_v7` holds at the end. -/
def rv_call4_v7 : IVec S4x65536x1x1 1 := after ops V (Proc.devRef .tc main_call4_v7)
/-- What `main_call4_v8` holds at the end. -/
def rv_call4_v8 : IVec S1x1x1x1 32 := after ops V (Proc.devRef .tc main_call4_v8)
/-- What `main_call4_v9` holds at the end. -/
def rv_call4_v9 : IVec S4x65536x1x1 32 := after ops V (Proc.devRef .tc main_call4_v9)
/-- What `main_call4_v10` holds at the end. -/
def rv_call4_v10 : IVec S4x65536x1x1 1 := after ops V (Proc.devRef .tc main_call4_v10)
/-- What `main_call4_v11` holds at the end. -/
def rv_call4_v11 : IVec S4x65536x1x1 1 := after ops V (Proc.devRef .tc main_call4_v11)
/-- What `main_call4_c_3` holds at the end. -/
def rv_call4_c_3 : IVec S_ 1 := after ops V (Proc.devRef .tc main_call4_c_3)
/-- What `main_call4_v12` holds at the end. -/
def rv_call4_v12 : IVec S4x65536x1 1 := after ops V (Proc.devRef .tc main_call4_v12)
/-- What `main_call4_v13` holds at the end. -/
def rv_call4_v13 : FVec Ideal S4x65536x1 .f32 := after ops V (Proc.devRef .tc main_call4_v13)
/-- What `main_call4_cst` holds at the end. -/
def rv_call4_cst : FVec Ideal S_ .f32 := after ops V (Proc.devRef .tc main_call4_cst)
/-- What `main_call4_v14` holds at the end. -/
def rv_call4_v14 : FVec Ideal S4x65536x1 .f32 := after ops V (Proc.devRef .tc main_call4_v14)
/-- What `main_v88` holds at the end. -/
def rv_v88 : FVec Ideal S4x65536x1 .f32 := after ops V (Proc.devRef .tc main_v88)
/-- What `main_v89` holds at the end. -/
def rv_v89 : FVec Ideal S4x65536 .f32 := after ops V (Proc.devRef .tc main_v89)
/-- What `main_v90` holds at the end. -/
def rv_v90 : FVec Ideal S4x65536 .f32 := after ops V (Proc.devRef .tc main_v90)
/-- What `main_cst` holds at the end. -/
def rv_cst : FVec Ideal S_ .f32 := after ops V (Proc.devRef .tc main_cst)
/-- What `main_v91` holds at the end. -/
def rv_v91 : FVec Ideal S4x65536 .f32 := after ops V (Proc.devRef .tc main_v91)
/-- What `main_v92` holds at the end. -/
def rv_v92 : FVec Ideal S4x65536 .f32 := after ops V (Proc.devRef .tc main_v92)
/-- What `main_v93` holds at the end. -/
def rv_v93 : FVec Ideal S4x65536 .f32 := after ops V (Proc.devRef .tc main_v93)
/-- What `main_v94` holds at the end. -/
def rv_v94 : FVec Ideal S4x65536x1 .f32 := after ops V (Proc.devRef .tc main_v94)
/-- What `main_v95` holds at the end. -/
def rv_v95 : FVec Ideal S4x65536x1 .f32 := after ops V (Proc.devRef .tc main_v95)
/-- What `main_v96` holds at the end. -/
def rv_v96 : FVec Ideal S4x65536x1 .f32 := after ops V (Proc.devRef .tc main_v96)
/-- What `main_v97` holds at the end. -/
def rv_v97 : FVec Ideal S4x65536x1 .f32 := after ops V (Proc.devRef .tc main_v97)
/-- What `main_v98` holds at the end. -/
def rv_v98 : FVec Ideal S4x65536x1 .f32 := after ops V (Proc.devRef .tc main_v98)
/-- What `main_v99` holds at the end. -/
def rv_v99 : FVec Ideal S4x65536x1 .f32 := after ops V (Proc.devRef .tc main_v99)
/-- What `main_v100` holds at the end. -/
def rv_v100 : FVec Ideal S4x65536x1 .f32 := after ops V (Proc.devRef .tc main_v100)
/-- What `main_v101` holds at the end. -/
def rv_v101 : FVec Ideal S4x65536x7 .f32 := after ops V (Proc.devRef .tc main_v101)

theorem rv_arg0_end : after ops V (Proc.devRef .tc main_arg0) = rv_arg0 V := after_unwritten ops_writes (by decide) V
theorem rv_arg1_end : after ops V (Proc.devRef .tc main_arg1) = rv_arg1 V := after_unwritten ops_writes (by decide) V
theorem rv_arg2_end : after ops V (Proc.devRef .tc main_arg2) = rv_arg2 V := after_unwritten ops_writes (by decide) V
theorem rv_arg3_end : after ops V (Proc.devRef .tc main_arg3) = rv_arg3 V := after_unwritten ops_writes (by decide) V
theorem rv_arg4_end : after ops V (Proc.devRef .tc main_arg4) = rv_arg4 V := after_unwritten ops_writes (by decide) V
theorem rv_arg5_end : after ops V (Proc.devRef .tc main_arg5) = rv_arg5 V := after_unwritten ops_writes (by decide) V
theorem rv_arg6_end : after ops V (Proc.devRef .tc main_arg6) = rv_arg6 V := after_unwritten ops_writes (by decide) V
theorem rv_arg7_end : after ops V (Proc.devRef .tc main_arg7) = rv_arg7 V := after_unwritten ops_writes (by decide) V
theorem rv_arg8_end : after ops V (Proc.devRef .tc main_arg8) = rv_arg8 V := after_unwritten ops_writes (by decide) V
theorem rv_arg9_end : after ops V (Proc.devRef .tc main_arg9) = rv_arg9 V := after_unwritten ops_writes (by decide) V
theorem rv_arg10_end : after ops V (Proc.devRef .tc main_arg10) = rv_arg10 V := after_unwritten ops_writes (by decide) V
theorem rv_arg11_end : after ops V (Proc.devRef .tc main_arg11) = rv_arg11 V := after_unwritten ops_writes (by decide) V
theorem rv_arg12_end : after ops V (Proc.devRef .tc main_arg12) = rv_arg12 V := after_unwritten ops_writes (by decide) V
theorem rv_arg13_end : after ops V (Proc.devRef .tc main_arg13) = rv_arg13 V := after_unwritten ops_writes (by decide) V
theorem rv_arg14_end : after ops V (Proc.devRef .tc main_arg14) = rv_arg14 V := after_unwritten ops_writes (by decide) V
theorem rv_arg15_end : after ops V (Proc.devRef .tc main_arg15) = rv_arg15 V := after_unwritten ops_writes (by decide) V
theorem rv_arg16_end : after ops V (Proc.devRef .tc main_arg16) = rv_arg16 V := after_unwritten ops_writes (by decide) V
theorem rv_arg17_end : after ops V (Proc.devRef .tc main_arg17) = rv_arg17 V := after_unwritten ops_writes (by decide) V
theorem rv_arg18_end : after ops V (Proc.devRef .tc main_arg18) = rv_arg18 V := after_unwritten ops_writes (by decide) V

/-- The operation that writes `main_v0`. -/
theorem rv_v0_eq : rv_v0 V = Host.dotGeneral dot_S4x256x65536_S128x256_S4x65536x128_1_1_02_0_n_n none (rv_arg0 V) (rv_arg6 V) := by
  have h := read_binary ops_writes V 0 rfl (by decide) (by decide) (by decide)
  rw [rv_arg0_end, rv_arg6_end] at h
  exact h
/-- The operation that writes `main_v1`. -/
theorem rv_v1_eq : rv_v1 V = transpose S4x128x65536 [0, 2, 1] (rv_v0 V) transposes_S4x65536x128_S4x128x65536_0_2_1 := by
  have h := read_unary ops_writes V 1 rfl (by decide) (by decide)
  exact h
/-- The operation that writes `main_v2`. -/
theorem rv_v2_eq : rv_v2 V = broadcastInDim S1x128x1 ![1] bcast_S128_S1x128x1_1 (rv_arg7 V) := by
  have h := read_unary ops_writes V 2 rfl (by decide) (by decide)
  rw [rv_arg7_end] at h
  exact h
/-- The operation that writes `main_v3`. -/
theorem rv_v3_eq : rv_v3 V = broadcastInDim S4x128x65536 ![0, 1, 2] bcast_S1x128x1_S4x128x65536_0_1_2 (rv_v2 V) := by
  have h := read_unary ops_writes V 3 rfl (by decide) (by decide)
  exact h
/-- The operation that writes `main_v4`. -/
theorem rv_v4_eq : rv_v4 V = addf (rv_v1 V) (rv_v3 V) := by
  have h := read_binary ops_writes V 4 rfl (by decide) (by decide) (by decide)
  exact h
/-- The operation that writes `main_v5`. -/
theorem rv_v5_eq : rv_v5 V = broadcastInDim S1x128x1 ![1] bcast_S128_S1x128x1_1 (rv_arg8 V) := by
  have h := read_unary ops_writes V 5 rfl (by decide) (by decide)
  rw [rv_arg8_end] at h
  exact h
/-- The operation that writes `main_v6`. -/
theorem rv_v6_eq : rv_v6 V = broadcastInDim S4x128x65536 ![0, 1, 2] bcast_S1x128x1_S4x128x65536_0_1_2 (rv_v5 V) := by
  have h := read_unary ops_writes V 6 rfl (by decide) (by decide)
  exact h
/-- The operation that writes `main_v7`. -/
theorem rv_v7_eq : rv_v7 V = mulf (rv_v4 V) (rv_v6 V) := by
  have h := read_binary ops_writes V 7 rfl (by decide) (by decide) (by decide)
  exact h
/-- The operation that writes `main_v8`. -/
theorem rv_v8_eq : rv_v8 V = broadcastInDim S1x128x1 ![1] bcast_S128_S1x128x1_1 (rv_arg9 V) := by
  have h := read_unary ops_writes V 8 rfl (by decide) (by decide)
  rw [rv_arg9_end] at h
  exact h
/-- The operation that writes `main_v9`. -/
theorem rv_v9_eq : rv_v9 V = broadcastInDim S4x128x65536 ![0, 1, 2] bcast_S1x128x1_S4x128x65536_0_1_2 (rv_v8 V) := by
  have h := read_unary ops_writes V 9 rfl (by decide) (by decide)
  exact h
/-- The operation that writes `main_v10`. -/
theorem rv_v10_eq : rv_v10 V = addf (rv_v7 V) (rv_v9 V) := by
  have h := read_binary ops_writes V 10 rfl (by decide) (by decide) (by decide)
  exact h
/-- The operation that writes `main_call0_cst`. -/
theorem rv_call0_cst_eq : rv_call0_cst V = (constant S_ .f32 0x00000000#32)  := by
  have h := read_nullary ops_writes V 11 rfl (by decide)
  exact h
/-- The operation that writes `main_call0_v0`. -/
theorem rv_call0_v0_eq : rv_call0_v0 V = (broadcastInDim S4x128x65536 ![] bcast_S_S4x128x65536) (rv_call0_cst V) := by
  have h := read_unary ops_writes V 12 rfl (by decide) (by decide)
  exact h
/-- The operation that writes `main_v11`. -/
theorem rv_v11_eq : rv_v11 V = maximumf (rv_v10 V) (rv_call0_v0 V) := by
  have h := read_binary ops_writes V 13 rfl (by decide) (by decide) (by decide)
  exact h
/-- The operation that writes `main_v12`. -/
theorem rv_v12_eq : rv_v12 V = Host.dotGeneral dot_S4x128x65536_S30x128_S4x65536x30_1_1_02_0_n_n none (rv_v11 V) (rv_arg10 V) := by
  have h := read_binary ops_writes V 14 rfl (by decide) (by decide) (by decide)
  rw [rv_arg10_end] at h
  exact h
/-- The operation that writes `main_v13`. -/
theorem rv_v13_eq : rv_v13 V = transpose S4x30x65536 [0, 2, 1] (rv_v12 V) transposes_S4x65536x30_S4x30x65536_0_2_1 := by
  have h := read_unary ops_writes V 15 rfl (by decide) (by decide)
  exact h
/-- The operation that writes `main_v14`. -/
theorem rv_v14_eq : rv_v14 V = broadcastInDim S1x30x1 ![1] bcast_S30_S1x30x1_1 (rv_arg11 V) := by
  have h := read_unary ops_writes V 16 rfl (by decide) (by decide)
  rw [rv_arg11_end] at h
  exact h
/-- The operation that writes `main_v15`. -/
theorem rv_v15_eq : rv_v15 V = broadcastInDim S4x30x65536 ![0, 1, 2] bcast_S1x30x1_S4x30x65536_0_1_2 (rv_v14 V) := by
  have h := read_unary ops_writes V 17 rfl (by decide) (by decide)
  exact h
/-- The operation that writes `main_v16`. -/
theorem rv_v16_eq : rv_v16 V = addf (rv_v13 V) (rv_v15 V) := by
  have h := read_binary ops_writes V 18 rfl (by decide) (by decide) (by decide)
  exact h
/-- The operation that writes `main_v17`. -/
theorem rv_v17_eq : rv_v17 V = transpose S4x65536x30 [0, 2, 1] (rv_v16 V) transposes_S4x30x65536_S4x65536x30_0_2_1 := by
  have h := read_unary ops_writes V 19 rfl (by decide) (by decide)
  exact h
/-- The operation that writes `main_v18`. -/
theorem rv_v18_eq : rv_v18 V = Host.dotGeneral dot_S4x256x65536_S128x256_S4x65536x128_1_1_02_0_n_n none (rv_arg0 V) (rv_arg12 V) := by
  have h := read_binary ops_writes V 20 rfl (by decide) (by decide) (by decide)
  rw [rv_arg0_end, rv_arg12_end] at h
  exact h
/-- The operation that writes `main_v19`. -/
theorem rv_v19_eq : rv_v19 V = transpose S4x128x65536 [0, 2, 1] (rv_v18 V) transposes_S4x65536x128_S4x128x65536_0_2_1 := by
  have h := read_unary ops_writes V 21 rfl (by decide) (by decide)
  exact h
/-- The operation that writes `main_v20`. -/
theorem rv_v20_eq : rv_v20 V = broadcastInDim S1x128x1 ![1] bcast_S128_S1x128x1_1 (rv_arg13 V) := by
  have h := read_unary ops_writes V 22 rfl (by decide) (by decide)
  rw [rv_arg13_end] at h
  exact h
/-- The operation that writes `main_v21`. -/
theorem rv_v21_eq : rv_v21 V = broadcastInDim S4x128x65536 ![0, 1, 2] bcast_S1x128x1_S4x128x65536_0_1_2 (rv_v20 V) := by
  have h := read_unary ops_writes V 23 rfl (by decide) (by decide)
  exact h
/-- The operation that writes `main_v22`. -/
theorem rv_v22_eq : rv_v22 V = addf (rv_v19 V) (rv_v21 V) := by
  have h := read_binary ops_writes V 24 rfl (by decide) (by decide) (by decide)
  exact h
/-- The operation that writes `main_v23`. -/
theorem rv_v23_eq : rv_v23 V = broadcastInDim S1x128x1 ![1] bcast_S128_S1x128x1_1 (rv_arg14 V) := by
  have h := read_unary ops_writes V 25 rfl (by decide) (by decide)
  rw [rv_arg14_end] at h
  exact h
/-- The operation that writes `main_v24`. -/
theorem rv_v24_eq : rv_v24 V = broadcastInDim S4x128x65536 ![0, 1, 2] bcast_S1x128x1_S4x128x65536_0_1_2 (rv_v23 V) := by
  have h := read_unary ops_writes V 26 rfl (by decide) (by decide)
  exact h
/-- The operation that writes `main_v25`. -/
theorem rv_v25_eq : rv_v25 V = mulf (rv_v22 V) (rv_v24 V) := by
  have h := read_binary ops_writes V 27 rfl (by decide) (by decide) (by decide)
  exact h
/-- The operation that writes `main_v26`. -/
theorem rv_v26_eq : rv_v26 V = broadcastInDim S1x128x1 ![1] bcast_S128_S1x128x1_1 (rv_arg15 V) := by
  have h := read_unary ops_writes V 28 rfl (by decide) (by decide)
  rw [rv_arg15_end] at h
  exact h
/-- The operation that writes `main_v27`. -/
theorem rv_v27_eq : rv_v27 V = broadcastInDim S4x128x65536 ![0, 1, 2] bcast_S1x128x1_S4x128x65536_0_1_2 (rv_v26 V) := by
  have h := read_unary ops_writes V 29 rfl (by decide) (by decide)
  exact h
/-- The operation that writes `main_v28`. -/
theorem rv_v28_eq : rv_v28 V = addf (rv_v25 V) (rv_v27 V) := by
  have h := read_binary ops_writes V 30 rfl (by decide) (by decide) (by decide)
  exact h
/-- The operation that writes `main_call1_cst`. -/
theorem rv_call1_cst_eq : rv_call1_cst V = (constant S_ .f32 0x00000000#32)  := by
  have h := read_nullary ops_writes V 31 rfl (by decide)
  exact h
/-- The operation that writes `main_call1_v0`. -/
theorem rv_call1_v0_eq : rv_call1_v0 V = (broadcastInDim S4x128x65536 ![] bcast_S_S4x128x65536) (rv_call1_cst V) := by
  have h := read_unary ops_writes V 32 rfl (by decide) (by decide)
  exact h
/-- The operation that writes `main_v29`. -/
theorem rv_v29_eq : rv_v29 V = maximumf (rv_v28 V) (rv_call1_v0 V) := by
  have h := read_binary ops_writes V 33 rfl (by decide) (by decide) (by decide)
  exact h
/-- The operation that writes `main_v30`. -/
theorem rv_v30_eq : rv_v30 V = Host.dotGeneral dot_S4x128x65536_S3x128_S4x65536x3_1_1_02_0_n_n none (rv_v29 V) (rv_arg16 V) := by
  have h := read_binary ops_writes V 34 rfl (by decide) (by decide) (by decide)
  rw [rv_arg16_end] at h
  exact h
/-- The operation that writes `main_v31`. -/
theorem rv_v31_eq : rv_v31 V = transpose S4x3x65536 [0, 2, 1] (rv_v30 V) transposes_S4x65536x3_S4x3x65536_0_2_1 := by
  have h := read_unary ops_writes V 35 rfl (by decide) (by decide)
  exact h
/-- The operation that writes `main_v32`. -/
theorem rv_v32_eq : rv_v32 V = broadcastInDim S1x3x1 ![1] bcast_S3_S1x3x1_1 (rv_arg17 V) := by
  have h := read_unary ops_writes V 36 rfl (by decide) (by decide)
  rw [rv_arg17_end] at h
  exact h
/-- The operation that writes `main_v33`. -/
theorem rv_v33_eq : rv_v33 V = broadcastInDim S4x3x65536 ![0, 1, 2] bcast_S1x3x1_S4x3x65536_0_1_2 (rv_v32 V) := by
  have h := read_unary ops_writes V 37 rfl (by decide) (by decide)
  exact h
/-- The operation that writes `main_v34`. -/
theorem rv_v34_eq : rv_v34 V = addf (rv_v31 V) (rv_v33 V) := by
  have h := read_binary ops_writes V 38 rfl (by decide) (by decide) (by decide)
  exact h
/-- The operation that writes `main_v35`. -/
theorem rv_v35_eq : rv_v35 V = transpose S4x65536x3 [0, 2, 1] (rv_v34 V) transposes_S4x3x65536_S4x65536x3_0_2_1 := by
  have h := read_unary ops_writes V 39 rfl (by decide) (by decide)
  exact h
/-- The operation that writes `main_call2_v0`. -/
theorem rv_call2_v0_eq : rv_call2_v0 V = (iotaInDim S4x65536x3 32 2)  := by
  have h := read_nullary ops_writes V 40 rfl (by decide)
  exact h
/-- The operation that writes `main_call2_cst`. -/
theorem rv_call2_cst_eq : rv_call2_cst V = (constant S_ .f32 0xFF800000#32)  := by
  have h := read_nullary ops_writes V 41 rfl (by decide)
  exact h
/-- The operation that writes `main_call2_c`. -/
theorem rv_call2_c_eq : rv_call2_c V = (constantI S_ 32 0#32)  := by
  have h := read_nullary ops_writes V 42 rfl (by decide)
  exact h
/-- The operation that writes `main_call2_v1_0`. -/
theorem rv_call2_v1_0_eq : rv_call2_v1_0 V = (fun j => (Host.argReduce reducer_argmax_f32_i32 (rv_v35 V) (rv_call2_v0 V) (rv_call2_cst V) (rv_call2_c V) reducesTo_S4x65536x3_S4x65536_d2 h_S_ j).1) := by
  have h := read_quaternary ops_writes V 43 rfl (by decide) (by decide) (by decide) (by decide) (by decide)
  exact h
/-- The operation that writes `main_v36`. -/
theorem rv_v36_eq : rv_v36 V = (fun j => (Host.argReduce reducer_argmax_f32_i32 (rv_v35 V) (rv_call2_v0 V) (rv_call2_cst V) (rv_call2_c V) reducesTo_S4x65536x3_S4x65536_d2 h_S_ j).2) := by
  have h := read_quaternary ops_writes V 44 rfl (by decide) (by decide) (by decide) (by decide) (by decide)
  exact h
/-- The operation that writes `main_v37`. -/
theorem rv_v37_eq : rv_v37 V = extractStridedSlice S4x65536x1 ![0, 0, 0] (rv_v17 V) slices_S4x65536x30_S4x65536x1_0_0_0 := by
  have h := read_unary ops_writes V 45 rfl (by decide) (by decide)
  exact h
/-- The operation that writes `main_v38`. -/
theorem rv_v38_eq : rv_v38 V = shapeCast S4x65536 (rv_v37 V) shapeCasts_S4x65536x1_S4x65536 := by
  have h := read_reshape ops_writes V 46 rfl (by decide) (by decide)
  exact h
/-- The operation that writes `main_v39`. -/
theorem rv_v39_eq : rv_v39 V = extractStridedSlice S4x65536x1 ![0, 0, 1] (rv_v17 V) slices_S4x65536x30_S4x65536x1_0_0_1 := by
  have h := read_unary ops_writes V 47 rfl (by decide) (by decide)
  exact h
/-- The operation that writes `main_v40`. -/
theorem rv_v40_eq : rv_v40 V = shapeCast S4x65536 (rv_v39 V) shapeCasts_S4x65536x1_S4x65536 := by
  have h := read_reshape ops_writes V 48 rfl (by decide) (by decide)
  exact h
/-- The operation that writes `main_v41`. -/
theorem rv_v41_eq : rv_v41 V = extractStridedSlice S4x65536x1 ![0, 0, 2] (rv_v17 V) slices_S4x65536x30_S4x65536x1_0_0_2 := by
  have h := read_unary ops_writes V 49 rfl (by decide) (by decide)
  exact h
/-- The operation that writes `main_v42`. -/
theorem rv_v42_eq : rv_v42 V = shapeCast S4x65536 (rv_v41 V) shapeCasts_S4x65536x1_S4x65536 := by
  have h := read_reshape ops_writes V 50 rfl (by decide) (by decide)
  exact h
/-- The operation that writes `main_v43`. -/
theorem rv_v43_eq : rv_v43 V = extractStridedSlice S4x65536x1 ![0, 0, 3] (rv_v17 V) slices_S4x65536x30_S4x65536x1_0_0_3 := by
  have h := read_unary ops_writes V 51 rfl (by decide) (by decide)
  exact h
/-- The operation that writes `main_v44`. -/
theorem rv_v44_eq : rv_v44 V = shapeCast S4x65536 (rv_v43 V) shapeCasts_S4x65536x1_S4x65536 := by
  have h := read_reshape ops_writes V 52 rfl (by decide) (by decide)
  exact h
/-- The operation that writes `main_v45`. -/
theorem rv_v45_eq : rv_v45 V = extractStridedSlice S4x65536x1 ![0, 0, 4] (rv_v17 V) slices_S4x65536x30_S4x65536x1_0_0_4 := by
  have h := read_unary ops_writes V 53 rfl (by decide) (by decide)
  exact h
/-- The operation that writes `main_v46`. -/
theorem rv_v46_eq : rv_v46 V = shapeCast S4x65536 (rv_v45 V) shapeCasts_S4x65536x1_S4x65536 := by
  have h := read_reshape ops_writes V 54 rfl (by decide) (by decide)
  exact h
/-- The operation that writes `main_v47`. -/
theorem rv_v47_eq : rv_v47 V = extractStridedSlice S4x65536x1 ![0, 0, 5] (rv_v17 V) slices_S4x65536x30_S4x65536x1_0_0_5 := by
  have h := read_unary ops_writes V 55 rfl (by decide) (by decide)
  exact h
/-- The operation that writes `main_v48`. -/
theorem rv_v48_eq : rv_v48 V = shapeCast S4x65536 (rv_v47 V) shapeCasts_S4x65536x1_S4x65536 := by
  have h := read_reshape ops_writes V 56 rfl (by decide) (by decide)
  exact h
/-- The operation that writes `main_v49`. -/
theorem rv_v49_eq : rv_v49 V = extractStridedSlice S4x65536x1 ![0, 0, 0] (rv_arg1 V) slices_S4x65536x3_S4x65536x1_0_0_0 := by
  have h := read_unary ops_writes V 57 rfl (by decide) (by decide)
  rw [rv_arg1_end] at h
  exact h
/-- The operation that writes `main_v50`. -/
theorem rv_v50_eq : rv_v50 V = shapeCast S4x65536 (rv_v49 V) shapeCasts_S4x65536x1_S4x65536 := by
  have h := read_reshape ops_writes V 58 rfl (by decide) (by decide)
  exact h
/-- The operation that writes `main_v51`. -/
theorem rv_v51_eq : rv_v51 V = extractStridedSlice S4x65536x1 ![0, 0, 1] (rv_arg1 V) slices_S4x65536x3_S4x65536x1_0_0_1 := by
  have h := read_unary ops_writes V 59 rfl (by decide) (by decide)
  rw [rv_arg1_end] at h
  exact h
/-- The operation that writes `main_v52`. -/
theorem rv_v52_eq : rv_v52 V = shapeCast S4x65536 (rv_v51 V) shapeCasts_S4x65536x1_S4x65536 := by
  have h := read_reshape ops_writes V 60 rfl (by decide) (by decide)
  exact h
/-- The operation that writes `main_v53`. -/
theorem rv_v53_eq : rv_v53 V = extractStridedSlice S4x65536x1 ![0, 0, 2] (rv_arg1 V) slices_S4x65536x3_S4x65536x1_0_0_2 := by
  have h := read_unary ops_writes V 61 rfl (by decide) (by decide)
  rw [rv_arg1_end] at h
  exact h
/-- The operation that writes `main_v54`. -/
theorem rv_v54_eq : rv_v54 V = shapeCast S4x65536 (rv_v53 V) shapeCasts_S4x65536x1_S4x65536 := by
  have h := read_reshape ops_writes V 62 rfl (by decide) (by decide)
  exact h
/-- The operation that writes `main_c`. -/
theorem rv_c_eq : rv_c V = (constantI S_ 32 0#32)  := by
  have h := read_nullary ops_writes V 63 rfl (by decide)
  exact h
/-- The operation that writes `main_v55`. -/
theorem rv_v55_eq : rv_v55 V = broadcastInDim S4x65536 ![] bcast_S_S4x65536 (rv_c V) := by
  have h := read_unary ops_writes V 64 rfl (by decide) (by decide)
  exact h
/-- The operation that writes `main_v56`. -/
theorem rv_v56_eq : rv_v56 V = cmpi .slt (rv_v36 V) (rv_v55 V) := by
  have h := read_binary ops_writes V 65 rfl (by decide) (by decide) (by decide)
  exact h
/-- The operation that writes `main_c_0`. -/
theorem rv_c_0_eq : rv_c_0 V = (constantI S_ 32 3#32)  := by
  have h := read_nullary ops_writes V 66 rfl (by decide)
  exact h
/-- The operation that writes `main_v57`. -/
theorem rv_v57_eq : rv_v57 V = broadcastInDim S4x65536 ![] bcast_S_S4x65536 (rv_c_0 V) := by
  have h := read_unary ops_writes V 67 rfl (by decide) (by decide)
  exact h
/-- The operation that writes `main_v58`. -/
theorem rv_v58_eq : rv_v58 V = addi (rv_v36 V) (rv_v57 V) := by
  have h := read_binary ops_writes V 68 rfl (by decide) (by decide) (by decide)
  exact h
/-- The operation that writes `main_v59`. -/
theorem rv_v59_eq : rv_v59 V = select (rv_v56 V) (rv_v58 V) (rv_v36 V) := by
  have h := read_ternary ops_writes V 69 rfl (by decide) (by decide) (by decide) (by decide)
  exact h
/-- The operation that writes `main_v60`. -/
theorem rv_v60_eq : rv_v60 V = broadcastInDim S4x65536x1 ![0, 1] bcast_S4x65536_S4x65536x1_0_1 (rv_v59 V) := by
  have h := read_unary ops_writes V 70 rfl (by decide) (by decide)
  exact h
/-- The operation that writes `main_v61`. -/
theorem rv_v61_eq : rv_v61 V = Host.gather gather_S3x3_S4x65536x1_S4x65536x3_2_0_n_n_0_2_13 (rv_arg18 V) (rv_v60 V) := by
  have h := read_binary ops_writes V 71 rfl (by decide) (by decide) (by decide)
  rw [rv_arg18_end] at h
  exact h
/-- The operation that writes `main_v62`. -/
theorem rv_v62_eq : rv_v62 V = extractStridedSlice S4x65536x1 ![0, 0, 0] (rv_v61 V) slices_S4x65536x3_S4x65536x1_0_0_0 := by
  have h := read_unary ops_writes V 72 rfl (by decide) (by decide)
  exact h
/-- The operation that writes `main_v63`. -/
theorem rv_v63_eq : rv_v63 V = shapeCast S4x65536 (rv_v62 V) shapeCasts_S4x65536x1_S4x65536 := by
  have h := read_reshape ops_writes V 73 rfl (by decide) (by decide)
  exact h
/-- The operation that writes `main_v64`. -/
theorem rv_v64_eq : rv_v64 V = extractStridedSlice S4x65536x1 ![0, 0, 1] (rv_v61 V) slices_S4x65536x3_S4x65536x1_0_0_1 := by
  have h := read_unary ops_writes V 74 rfl (by decide) (by decide)
  exact h
/-- The operation that writes `main_v65`. -/
theorem rv_v65_eq : rv_v65 V = shapeCast S4x65536 (rv_v64 V) shapeCasts_S4x65536x1_S4x65536 := by
  have h := read_reshape ops_writes V 75 rfl (by decide) (by decide)
  exact h
/-- The operation that writes `main_v66`. -/
theorem rv_v66_eq : rv_v66 V = extractStridedSlice S4x65536x1 ![0, 0, 2] (rv_v61 V) slices_S4x65536x3_S4x65536x1_0_0_2 := by
  have h := read_unary ops_writes V 76 rfl (by decide) (by decide)
  exact h
/-- The operation that writes `main_v67`. -/
theorem rv_v67_eq : rv_v67 V = shapeCast S4x65536 (rv_v66 V) shapeCasts_S4x65536x1_S4x65536 := by
  have h := read_reshape ops_writes V 77 rfl (by decide) (by decide)
  exact h
/-- The operation that writes `main_v68`. -/
theorem rv_v68_eq : rv_v68 V = mulf (rv_v63 V) (rv_v63 V) := by
  have h := read_binary ops_writes V 78 rfl (by decide) (by decide) (by decide)
  exact h
/-- The operation that writes `main_v69`. -/
theorem rv_v69_eq : rv_v69 V = mulf (rv_v65 V) (rv_v65 V) := by
  have h := read_binary ops_writes V 79 rfl (by decide) (by decide) (by decide)
  exact h
/-- The operation that writes `main_v70`. -/
theorem rv_v70_eq : rv_v70 V = addf (rv_v68 V) (rv_v69 V) := by
  have h := read_binary ops_writes V 80 rfl (by decide) (by decide) (by decide)
  exact h
/-- The operation that writes `main_v71`. -/
theorem rv_v71_eq : rv_v71 V = Host.sqrt (rv_v70 V) := by
  have h := read_unary ops_writes V 81 rfl (by decide) (by decide)
  exact h
/-- The operation that writes `main_v72`. -/
theorem rv_v72_eq : rv_v72 V = mulf (rv_v38 V) (rv_v71 V) := by
  have h := read_binary ops_writes V 82 rfl (by decide) (by decide) (by decide)
  exact h
/-- The operation that writes `main_v73`. -/
theorem rv_v73_eq : rv_v73 V = addf (rv_v72 V) (rv_v50 V) := by
  have h := read_binary ops_writes V 83 rfl (by decide) (by decide) (by decide)
  exact h
/-- The operation that writes `main_v74`. -/
theorem rv_v74_eq : rv_v74 V = mulf (rv_v40 V) (rv_v71 V) := by
  have h := read_binary ops_writes V 84 rfl (by decide) (by decide) (by decide)
  exact h
/-- The operation that writes `main_v75`. -/
theorem rv_v75_eq : rv_v75 V = addf (rv_v74 V) (rv_v52 V) := by
  have h := read_binary ops_writes V 85 rfl (by decide) (by decide) (by decide)
  exact h
/-- The operation that writes `main_v76`. -/
theorem rv_v76_eq : rv_v76 V = mulf (rv_v42 V) (rv_v67 V) := by
  have h := read_binary ops_writes V 86 rfl (by decide) (by decide) (by decide)
  exact h
/-- The operation that writes `main_v77`. -/
theorem rv_v77_eq : rv_v77 V = addf (rv_v76 V) (rv_v54 V) := by
  have h := read_binary ops_writes V 87 rfl (by decide) (by decide) (by decide)
  exact h
/-- The operation that writes `main_v78`. -/
theorem rv_v78_eq : rv_v78 V = Host.exp (rv_v44 V) := by
  have h := read_unary ops_writes V 88 rfl (by decide) (by decide)
  exact h
/-- The operation that writes `main_v79`. -/
theorem rv_v79_eq : rv_v79 V = mulf (rv_v78 V) (rv_v63 V) := by
  have h := read_binary ops_writes V 89 rfl (by decide) (by decide) (by decide)
  exact h
/-- The operation that writes `main_v80`. -/
theorem rv_v80_eq : rv_v80 V = Host.exp (rv_v46 V) := by
  have h := read_unary ops_writes V 90 rfl (by decide) (by decide)
  exact h
/-- The operation that writes `main_v81`. -/
theorem rv_v81_eq : rv_v81 V = mulf (rv_v80 V) (rv_v65 V) := by
  have h := read_binary ops_writes V 91 rfl (by decide) (by decide) (by decide)
  exact h
/-- The operation that writes `main_v82`. -/
theorem rv_v82_eq : rv_v82 V = Host.exp (rv_v48 V) := by
  have h := read_unary ops_writes V 92 rfl (by decide) (by decide)
  exact h
/-- The operation that writes `main_v83`. -/
theorem rv_v83_eq : rv_v83 V = mulf (rv_v82 V) (rv_v67 V) := by
  have h := read_binary ops_writes V 93 rfl (by decide) (by decide) (by decide)
  exact h
/-- The operation that writes `main_v84`. -/
theorem rv_v84_eq : rv_v84 V = extractStridedSlice S4x65536x12 ![0, 0, 6] (rv_v17 V) slices_S4x65536x30_S4x65536x12_0_0_6 := by
  have h := read_unary ops_writes V 94 rfl (by decide) (by decide)
  exact h
/-- The operation that writes `main_call3_v0`. -/
theorem rv_call3_v0_eq : rv_call3_v0 V = (iotaInDim S4x65536x12 32 2)  := by
  have h := read_nullary ops_writes V 95 rfl (by decide)
  exact h
/-- The operation that writes `main_call3_cst`. -/
theorem rv_call3_cst_eq : rv_call3_cst V = (constant S_ .f32 0xFF800000#32)  := by
  have h := read_nullary ops_writes V 96 rfl (by decide)
  exact h
/-- The operation that writes `main_call3_c`. -/
theorem rv_call3_c_eq : rv_call3_c V = (constantI S_ 32 0#32)  := by
  have h := read_nullary ops_writes V 97 rfl (by decide)
  exact h
/-- The operation that writes `main_call3_v1_0`. -/
theorem rv_call3_v1_0_eq : rv_call3_v1_0 V = (fun j => (Host.argReduce reducer_argmax_f32_i32 (rv_v84 V) (rv_call3_v0 V) (rv_call3_cst V) (rv_call3_c V) reducesTo_S4x65536x12_S4x65536_d2 h_S_ j).1) := by
  have h := read_quaternary ops_writes V 98 rfl (by decide) (by decide) (by decide) (by decide) (by decide)
  exact h
/-- The operation that writes `main_v85`. -/
theorem rv_v85_eq : rv_v85 V = (fun j => (Host.argReduce reducer_argmax_f32_i32 (rv_v84 V) (rv_call3_v0 V) (rv_call3_cst V) (rv_call3_c V) reducesTo_S4x65536x12_S4x65536_d2 h_S_ j).2) := by
  have h := read_quaternary ops_writes V 99 rfl (by decide) (by decide) (by decide) (by decide) (by decide)
  exact h
/-- The operation that writes `main_v86`. -/
theorem rv_v86_eq : rv_v86 V = extractStridedSlice S4x65536x12 ![0, 0, 18] (rv_v17 V) slices_S4x65536x30_S4x65536x12_0_0_18 := by
  have h := read_unary ops_writes V 100 rfl (by decide) (by decide)
  exact h
/-- The operation that writes `main_v87`. -/
theorem rv_v87_eq : rv_v87 V = broadcastInDim S4x65536x1 ![0, 1] bcast_S4x65536_S4x65536x1_0_1 (rv_v85 V) := by
  have h := read_unary ops_writes V 101 rfl (by decide) (by decide)
  exact h
/-- The operation that writes `main_call4_c`. -/
theorem rv_call4_c_eq : rv_call4_c V = (constantI S_ 32 0#32)  := by
  have h := read_nullary ops_writes V 102 rfl (by decide)
  exact h
/-- The operation that writes `main_call4_v0`. -/
theorem rv_call4_v0_eq : rv_call4_v0 V = (broadcastInDim S4x65536x1 ![] bcast_S_S4x65536x1) (rv_call4_c V) := by
  have h := read_unary ops_writes V 103 rfl (by decide) (by decide)
  exact h
/-- The operation that writes `main_call4_v1`. -/
theorem rv_call4_v1_eq : rv_call4_v1 V = (cmpi .slt) (rv_v87 V) (rv_call4_v0 V) := by
  have h := read_binary ops_writes V 104 rfl (by decide) (by decide) (by decide)
  simp only [TRef.toBuf, TRef.ofBuf, cast_eq] at h
  exact h
/-- The operation that writes `main_call4_c_0`. -/
theorem rv_call4_c_0_eq : rv_call4_c_0 V = (constantI S_ 32 12#32)  := by
  have h := read_nullary ops_writes V 105 rfl (by decide)
  exact h
/-- The operation that writes `main_call4_v2`. -/
theorem rv_call4_v2_eq : rv_call4_v2 V = (broadcastInDim S4x65536x1 ![] bcast_S_S4x65536x1) (rv_call4_c_0 V) := by
  have h := read_unary ops_writes V 106 rfl (by decide) (by decide)
  exact h
/-- The operation that writes `main_call4_v3`. -/
theorem rv_call4_v3_eq : rv_call4_v3 V = addi (rv_v87 V) (rv_call4_v2 V) := by
  have h := read_binary ops_writes V 107 rfl (by decide) (by decide) (by decide)
  exact h
/-- The operation that writes `main_call4_v4`. -/
theorem rv_call4_v4_eq : rv_call4_v4 V = select (rv_call4_v1 V) (rv_call4_v3 V) (rv_v87 V) := by
  have h := read_ternary ops_writes V 108 rfl (by decide) (by decide) (by decide) (by decide)
  simp only [TRef.toBuf, TRef.ofBuf, cast_eq] at h
  exact h
/-- The operation that writes `main_call4_v5`. -/
theorem rv_call4_v5_eq : rv_call4_v5 V = shapeCast S4x65536x1x1 (rv_call4_v4 V) shapeCasts_S4x65536x1_S4x65536x1x1 := by
  have h := read_reshape ops_writes V 109 rfl (by decide) (by decide)
  exact h
/-- The operation that writes `main_call4_c_1`. -/
theorem rv_call4_c_1_eq : rv_call4_c_1 V = (constantI S1 32 11#32)  := by
  have h := read_nullary ops_writes V 110 rfl (by decide)
  exact h
/-- The operation that writes `main_call4_c_2`. -/
theorem rv_call4_c_2_eq : rv_call4_c_2 V = (constantI S_ 32 0#32)  := by
  have h := read_nullary ops_writes V 111 rfl (by decide)
  exact h
/-- The operation that writes `main_call4_v6`. -/
theorem rv_call4_v6_eq : rv_call4_v6 V = (broadcastInDim S4x65536x1x1 ![] bcast_S_S4x65536x1x1) (rv_call4_c_2 V) := by
  have h := read_unary ops_writes V 112 rfl (by decide) (by decide)
  exact h
/-- The operation that writes `main_call4_v7`. -/
theorem rv_call4_v7_eq : rv_call4_v7 V = (cmpi .sge) (rv_call4_v5 V) (rv_call4_v6 V) := by
  have h := read_binary ops_writes V 113 rfl (by decide) (by decide) (by decide)
  simp only [TRef.toBuf, TRef.ofBuf, cast_eq] at h
  exact h
/-- The operation that writes `main_call4_v8`. -/
theorem rv_call4_v8_eq : rv_call4_v8 V = (broadcastInDim S1x1x1x1 ![3] bcast_S1_S1x1x1x1_3) (rv_call4_c_1 V) := by
  have h := read_unary ops_writes V 114 rfl (by decide) (by decide)
  exact h
/-- The operation that writes `main_call4_v9`. -/
theorem rv_call4_v9_eq : rv_call4_v9 V = (broadcastInDim S4x65536x1x1 ![0, 1, 2, 3] bcast_S1x1x1x1_S4x65536x1x1_0_1_2_3) (rv_call4_v8 V) := by
  have h := read_unary ops_writes V 115 rfl (by decide) (by decide)
  exact h
/-- The operation that writes `main_call4_v10`. -/
theorem rv_call4_v10_eq : rv_call4_v10 V = (cmpi .sle) (rv_call4_v5 V) (rv_call4_v9 V) := by
  have h := read_binary ops_writes V 116 rfl (by decide) (by decide) (by decide)
  simp only [TRef.toBuf, TRef.ofBuf, cast_eq] at h
  exact h
/-- The operation that writes `main_call4_v11`. -/
theorem rv_call4_v11_eq : rv_call4_v11 V = andi (rv_call4_v7 V) (rv_call4_v10 V) := by
  have h := read_binary ops_writes V 117 rfl (by decide) (by decide) (by decide)
  simp only [TRef.toBuf, TRef.ofBuf, cast_eq] at h
  exact h
/-- The operation that writes `main_call4_c_3`. -/
theorem rv_call4_c_3_eq : rv_call4_c_3 V = (constantI S_ 1 1#1)  := by
  have h := read_nullary ops_writes V 118 rfl (by decide)
  simp only [TRef.toBuf, TRef.ofBuf, cast_eq] at h
  exact h
/-- The operation that writes `main_call4_v12`. -/
theorem rv_call4_v12_eq : rv_call4_v12 V = Host.reduce IntOp.andi (rv_call4_v11 V) (rv_call4_c_3 V) reducesTo_S4x65536x1x1_S4x65536x1_d3 h_S_ := by
  have h := read_binary ops_writes V 119 rfl (by decide) (by decide) (by decide)
  simp only [TRef.toBuf, TRef.ofBuf, cast_eq] at h
  exact h
/-- The operation that writes `main_call4_v13`. -/
theorem rv_call4_v13_eq : rv_call4_v13 V = Host.gather gather_S4x65536x12_S4x65536x1x1_S4x65536x1_n_2_01_01_2_3_111 (rv_v86 V) (rv_call4_v5 V) := by
  have h := read_binary ops_writes V 120 rfl (by decide) (by decide) (by decide)
  exact h
/-- The operation that writes `main_call4_cst`. -/
theorem rv_call4_cst_eq : rv_call4_cst V = (constant S_ .f32 0x7FC00000#32)  := by
  have h := read_nullary ops_writes V 121 rfl (by decide)
  exact h
/-- The operation that writes `main_call4_v14`. -/
theorem rv_call4_v14_eq : rv_call4_v14 V = (broadcastInDim S4x65536x1 ![] bcast_S_S4x65536x1) (rv_call4_cst V) := by
  have h := read_unary ops_writes V 122 rfl (by decide) (by decide)
  exact h
/-- The operation that writes `main_v88`. -/
theorem rv_v88_eq : rv_v88 V = select (rv_call4_v12 V) (rv_call4_v13 V) (rv_call4_v14 V) := by
  have h := read_ternary ops_writes V 123 rfl (by decide) (by decide) (by decide) (by decide)
  simp only [TRef.toBuf, TRef.ofBuf, cast_eq] at h
  exact h
/-- The operation that writes `main_v89`. -/
theorem rv_v89_eq : rv_v89 V = shapeCast S4x65536 (rv_v88 V) shapeCasts_S4x65536x1_S4x65536 := by
  have h := read_reshape ops_writes V 124 rfl (by decide) (by decide)
  exact h
/-- The operation that writes `main_v90`. -/
theorem rv_v90_eq : rv_v90 V = sitofp .f32 (rv_v85 V) := by
  have h := read_unary ops_writes V 125 rfl (by decide) (by decide)
  exact h
/-- The operation that writes `main_cst`. -/
theorem rv_cst_eq : rv_cst V = (constant S_ .f32 0x3F060A92#32)  := by
  have h := read_nullary ops_writes V 126 rfl (by decide)
  exact h
/-- The operation that writes `main_v91`. -/
theorem rv_v91_eq : rv_v91 V = broadcastInDim S4x65536 ![] bcast_S_S4x65536 (rv_cst V) := by
  have h := read_unary ops_writes V 127 rfl (by decide) (by decide)
  exact h
/-- The operation that writes `main_v92`. -/
theorem rv_v92_eq : rv_v92 V = mulf (rv_v90 V) (rv_v91 V) := by
  have h := read_binary ops_writes V 128 rfl (by decide) (by decide) (by decide)
  exact h
/-- The operation that writes `main_v93`. -/
theorem rv_v93_eq : rv_v93 V = addf (rv_v92 V) (rv_v89 V) := by
  have h := read_binary ops_writes V 129 rfl (by decide) (by decide) (by decide)
  exact h
/-- The operation that writes `main_v94`. -/
theorem rv_v94_eq : rv_v94 V = broadcastInDim S4x65536x1 ![0, 1] bcast_S4x65536_S4x65536x1_0_1 (rv_v73 V) := by
  have h := read_unary ops_writes V 130 rfl (by decide) (by decide)
  exact h
/-- The operation that writes `main_v95`. -/
theorem rv_v95_eq : rv_v95 V = broadcastInDim S4x65536x1 ![0, 1] bcast_S4x65536_S4x65536x1_0_1 (rv_v75 V) := by
  have h := read_unary ops_writes V 131 rfl (by decide) (by decide)
  exact h
/-- The operation that writes `main_v96`. -/
theorem rv_v96_eq : rv_v96 V = broadcastInDim S4x65536x1 ![0, 1] bcast_S4x65536_S4x65536x1_0_1 (rv_v77 V) := by
  have h := read_unary ops_writes V 132 rfl (by decide) (by decide)
  exact h
/-- The operation that writes `main_v97`. -/
theorem rv_v97_eq : rv_v97 V = broadcastInDim S4x65536x1 ![0, 1] bcast_S4x65536_S4x65536x1_0_1 (rv_v79 V) := by
  have h := read_unary ops_writes V 133 rfl (by decide) (by decide)
  exact h
/-- The operation that writes `main_v98`. -/
theorem rv_v98_eq : rv_v98 V = broadcastInDim S4x65536x1 ![0, 1] bcast_S4x65536_S4x65536x1_0_1 (rv_v81 V) := by
  have h := read_unary ops_writes V 134 rfl (by decide) (by decide)
  exact h
/-- The operation that writes `main_v99`. -/
theorem rv_v99_eq : rv_v99 V = broadcastInDim S4x65536x1 ![0, 1] bcast_S4x65536_S4x65536x1_0_1 (rv_v83 V) := by
  have h := read_unary ops_writes V 135 rfl (by decide) (by decide)
  exact h
/-- The operation that writes `main_v100`. -/
theorem rv_v100_eq : rv_v100 V = broadcastInDim S4x65536x1 ![0, 1] bcast_S4x65536_S4x65536x1_0_1 (rv_v93 V) := by
  have h := read_unary ops_writes V 136 rfl (by decide) (by decide)
  exact h
/-- The operation that writes `main_v101`. -/
theorem rv_v101_eq : rv_v101 V = concatenate S4x65536x7 2 [⟨S4x65536x1, (rv_v94 V)⟩, ⟨S4x65536x1, (rv_v95 V)⟩, ⟨S4x65536x1, (rv_v96 V)⟩, ⟨S4x65536x1, (rv_v97 V)⟩, ⟨S4x65536x1, (rv_v98 V)⟩, ⟨S4x65536x1, (rv_v99 V)⟩, ⟨S4x65536x1, (rv_v100 V)⟩] concatenates_S4x65536x1_S4x65536x1_S4x65536x1_S4x65536x1_S4x65536x1_S4x65536x1_S4x65536x1_S4x65536x7_d2 := by
  have h := read_nary ops_writes V 137 rfl (by decide) (by decide)
  exact h

end Cert.ReferenceIdeal.Stages

end
-- ==== Proof.RefHeads.lean ====
/- What the reference's two heads hold at one point of one batch. -/
module

public import proofs.«01_k».proof.Proof.RefStages
public import proofs.«01_k».proof.Proof.Spec
public import Idealize.ShloMosaic.Lib.Pointwise

@[expose] public section

set_option maxRecDepth 16384

noncomputable section

namespace Cert.ReferenceIdeal.Stages

open Idealize.ShloMosaic Idealize.ShloMosaic.TcCoe Idealize.SL.Sem Idealize.ShloMosaic.StableHlo
open Cert.ReferenceIdeal Cert.Spec Cert.Argmax

variable (V : Valuation τ sig (Elt Ideal))

/-- The box head's hidden unit `k` at point `n` of batch `b`. -/
theorem rv_v11_at (b : Fin 4) (k : Fin 128) (n : Fin 65536) :
    rv_v11 V (ix3 b k n) = hid (fun c => rv_arg6 V (ix2 k c)) (rv_arg7 V (ix1 k)) (rv_arg8 V (ix1 k))
      (rv_arg9 V (ix1 k)) (fun c => rv_arg0 V (ix3 b c n)) := by
  rw [rv_v11_eq, rv_call0_v0_eq, rv_call0_cst_eq, rv_v10_eq, rv_v9_eq, rv_v8_eq, rv_v7_eq, rv_v6_eq, rv_v5_eq, rv_v4_eq,
    rv_v3_eq, rv_v2_eq, rv_v1_eq, rv_v0_eq]
  pointwise
  rfl

/-- The class head's hidden unit `k` at point `n` of batch `b`. -/
theorem rv_v29_at (b : Fin 4) (k : Fin 128) (n : Fin 65536) :
    rv_v29 V (ix3 b k n) = hid (fun c => rv_arg12 V (ix2 k c)) (rv_arg13 V (ix1 k)) (rv_arg14 V (ix1 k))
      (rv_arg15 V (ix1 k)) (fun c => rv_arg0 V (ix3 b c n)) := by
  rw [rv_v29_eq, rv_call1_v0_eq, rv_call1_cst_eq, rv_v28_eq, rv_v27_eq, rv_v26_eq, rv_v25_eq, rv_v24_eq, rv_v23_eq,
    rv_v22_eq, rv_v21_eq, rv_v20_eq, rv_v19_eq, rv_v18_eq]
  pointwise
  rfl

/-- The box row at point `n` of batch `b`. -/
def boxR (b : Fin 4) (n : Fin 65536) (o : Fin 30) : EReal :=
  head (fun k => hid (fun c => rv_arg6 V (ix2 k c)) (rv_arg7 V (ix1 k)) (rv_arg8 V (ix1 k))
    (rv_arg9 V (ix1 k)) (fun c => rv_arg0 V (ix3 b c n))) (fun k => rv_arg10 V (ix2 o k)) (rv_arg11 V (ix1 o))

/-- The class row at point `n` of batch `b`. -/
def clsR (b : Fin 4) (n : Fin 65536) (o : Fin 3) : EReal :=
  head (fun k => hid (fun c => rv_arg12 V (ix2 k c)) (rv_arg13 V (ix1 k)) (rv_arg14 V (ix1 k))
    (rv_arg15 V (ix1 k)) (fun c => rv_arg0 V (ix3 b c n))) (fun k => rv_arg16 V (ix2 o k)) (rv_arg17 V (ix1 o))

/-- The first result. -/
theorem rv_v17_at (b : Fin 4) (n : Fin 65536) (o : Fin 30) : rv_v17 V (ix3 b n o) = boxR V b n o := by
  rw [rv_v17_eq, rv_v16_eq, rv_v15_eq, rv_v14_eq, rv_v13_eq, rv_v12_eq]
  pointwise [rv_v11_at]
  rfl

/-- The second result. -/
theorem rv_v35_at (b : Fin 4) (n : Fin 65536) (o : Fin 3) : rv_v35 V (ix3 b n o) = clsR V b n o := by
  rw [rv_v35_eq, rv_v34_eq, rv_v33_eq, rv_v32_eq, rv_v31_eq, rv_v30_eq]
  pointwise [rv_v29_at]
  rfl

end Cert.ReferenceIdeal.Stages
-- ==== Proof.RefArgmax.lean ====
/- The reference's two largest-entry searches and the two reads at the places they find. -/
module

public import proofs.«01_k».proof.Proof.RefHeads

@[expose] public section

set_option maxRecDepth 16384

noncomputable section

namespace Cert.ReferenceIdeal.Stages

open Idealize.ShloMosaic Idealize.ShloMosaic.TcCoe Idealize.SL.Sem Idealize.ShloMosaic.StableHlo
open Cert.ReferenceIdeal Cert.Spec Cert.Argmax

/-- The reducer's masks, over the three comparisons as propositions. -/
theorem masks_eq (P Q R : Prop) [Decidable P] [Decidable Q] [Decidable R] (a1 b1 : EReal) (a2 b2 : BitVec 32) :
    (Scalar.select (IntOp.ori (BitVec.ofBool (decide P)) 0#1) a1 b1,
      Scalar.select (IntOp.ori (IntOp.ori (BitVec.ofBool (decide P)) 0#1)
        (IntOp.andi (BitVec.ofBool (decide Q)) (BitVec.ofBool (decide R)))) a2 b2)
      = (if P then a1 else b1, if P ∨ (Q ∧ R) then a2 else b2) := by
  by_cases p : P <;> by_cases q : Q <;> by_cases r : R <;>
    simp only [p, q, r, decide_true, decide_false, if_true, if_false, true_and, and_true, and_false, or_false, or_true] <;>
    rfl

/-- The reducer is the step of the pair fold. -/
theorem reducer_eq (a b : EReal × BitVec 32) :
    reducer_argmax_f32_i32 (F := Ideal) a b = step a b := by
  obtain ⟨a1, a2⟩ := a
  obtain ⟨b1, b2⟩ := b
  unfold step
  dsimp only [reducer_argmax_f32_i32]
  have h1 : FloatOps.cmpf (F := Ideal) (φ := .f32) .ogt a1 b1 = BitVec.ofBool (decide (b1 < a1)) := by
    simp [Ideal.cmpf_def, Ideal.cmp]
  have h2 : FloatOps.cmpf (F := Ideal) (φ := .f32) .une a1 a1 = 0#1 := by simp [Ideal.cmpf_def, Ideal.cmp]
  have h3 : FloatOps.cmpf (F := Ideal) (φ := .f32) .oeq a1 b1 = BitVec.ofBool (decide (a1 = b1)) := by
    simp [Ideal.cmpf_def, Ideal.cmp]
  have h4 : IntOp.cmpi .slt a2 b2 = BitVec.ofBool (decide (a2.toInt < b2.toInt)) := by
    simp [IntOp.cmpi, BitVec.slt_eq_decide]
  rw [h1, h2, h3, h4]
  exact masks_eq _ _ _ a1 b1 a2 b2

/-- The fold of pairs along the last axis of a rank-3 array, counted along that axis, is the first largest entry. -/
theorem argReduce_last {d0 d1 d2 : ℕ} [NeZero d2] (hd : d2 < 2147483648) {t : Shape}
    (x : FVec Ideal ⟨3, ![d0, d1, d2]⟩ .f32) (y : IVec ⟨3, ![d0, d1, d2]⟩ 32) {u : Shape} (ix : u.Idx → EReal)
    (iy : u.Idx → BitVec 32) (h : (⟨3, ![d0, d1, d2]⟩ : Shape).ReducesTo [2] t) (hu : 0 < u.numel)
    (hix : ∀ i, ix i = ⊥) (hiy : ∀ i, iy i = 0#32)
    (hy : ∀ (a : Fin d0) (b : Fin d1) (k : Fin d2), y (ix3 a b k) = BitVec.ofNat 32 k.val)
    (j : t.Idx) (a : Fin d0) (b : Fin d1) (ha : (j ⟨0, h.lt_r3_a2_0⟩).val = a.val) (hb : (j ⟨1, h.lt_r3_a2_1⟩).val = b.val) :
    (Host.argReduce (reducer_argmax_f32_i32 (F := Ideal)) x y ix iy h hu j).2
      = BitVec.ofNat 32 (firstMax fun k => x (ix3 a b k)).val := by
  rw [Ideal.argReduce_eq_reduce2]
  unfold Host.reduce2
  rw [hix, hiy]
  simp only [reducer_eq]
  have hfib : ∀ i, h.drop i = j ↔ ∃ k : Fin d2, ix3 a b k = i := fun i => by
    rw [h.fiber_r3_a2 j i]
    constructor <;> rintro ⟨k, rfl⟩ <;> refine ⟨k, ?_⟩
    · exact congrArg₂ (fun p q => ix3 p q k) (Fin.ext ha.symm) (Fin.ext hb.symm)
    · exact congrArg₂ (fun p q => ix3 p q k) (Fin.ext ha) (Fin.ext hb)
  refine foldl_eq_firstMax hd (fun k => x (ix3 a b k)) _ (fun n => x ((⟨3, ![d0, d1, d2]⟩ : Shape).rowMajor.symm n))
    (fun n => y ((⟨3, ![d0, d1, d2]⟩ : Shape).rowMajor.symm n)) (fun k => (⟨3, ![d0, d1, d2]⟩ : Shape).rowMajor (ix3 a b k))
    (fun k => ?_) (fun e he => ?_) (fun k => ?_) (fun k => ?_)
  · refine List.mem_filter.mpr ⟨List.mem_finRange _, ?_⟩
    simp only [Equiv.symm_apply_apply, decide_eq_true_eq]
    exact (hfib _).mpr ⟨k, rfl⟩
  · obtain ⟨k, hk⟩ := (hfib _).mp (by simpa using (List.mem_filter.mp he).2)
    exact ⟨k, by rw [hk, Equiv.apply_symm_apply]⟩
  · simp only [Equiv.symm_apply_apply]
  · simp only [Equiv.symm_apply_apply, hy]

variable (V : Valuation τ sig (Elt Ideal))

/-- The pattern of minus infinity. -/
theorem ofBits_bot : Ideal.ofBits .f32 0xFF800000#32 = ⊥ := by
  simp [Ideal.ofBits, Ideal.ieee]

/-- The likeliest class of point `n` of batch `b`. -/
theorem rv_v36_at (b : Fin 4) (n : Fin 65536) :
    rv_v36 V (ix2 b n) = BitVec.ofNat 32 (firstMax (clsR V b n)).val := by
  rw [rv_v36_eq]
  refine (argReduce_last (by norm_num) _ _ _ _ _ _ (fun i => ?_) (fun i => ?_) (fun a c k => ?_) (ix2 b n) b n rfl rfl).trans ?_
  · rw [rv_call2_cst_eq]; exact ofBits_bot
  · rw [rv_call2_c_eq]; rfl
  · rw [rv_call2_v0_eq]; pointwise
  · simp only [rv_v35_at]

/-- The box row's heading scores. -/
theorem rv_v84_at (b : Fin 4) (n : Fin 65536) (k : Fin 12) : rv_v84 V (ix3 b n k) = boxR V b n ⟨6 + k.val, by omega⟩ := by
  rw [rv_v84_eq]
  pointwise
  exact rv_v17_at V b n _

/-- The likeliest heading bin of point `n` of batch `b`. -/
theorem rv_v85_at (b : Fin 4) (n : Fin 65536) :
    rv_v85 V (ix2 b n) = BitVec.ofNat 32 (bin (boxR V b n)).val := by
  rw [rv_v85_eq]
  refine (argReduce_last (by norm_num) _ _ _ _ _ _ (fun i => ?_) (fun i => ?_) (fun a c k => ?_) (ix2 b n) b n rfl rfl).trans ?_
  · rw [rv_call3_cst_eq]; exact ofBits_bot
  · rw [rv_call3_c_eq]; rfl
  · rw [rv_call3_v0_eq]; pointwise
  · simp only [rv_v84_at]; rfl

end Cert.ReferenceIdeal.Stages
-- ==== Proof.RefDecode.lean ====
/- What the reference decodes at one point of one batch: the mean size of the likeliest class, the entry at the
   likeliest heading bin, and the seven numbers. -/
module

public import proofs.«01_k».proof.Proof.RefArgmax

@[expose] public section

set_option maxRecDepth 16384

noncomputable section

namespace Cert.ReferenceIdeal.Stages

open Idealize.ShloMosaic Idealize.ShloMosaic.TcCoe Idealize.SL.Sem Idealize.ShloMosaic.StableHlo
open Cert.ReferenceIdeal Cert.Spec Cert.Argmax

/-- The dimension numbers of a row gather: the start indices name rows, the whole row is read. -/
abbrev tableDims (N C A B : ℕ)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The row gather read at `(b, n, c)`: column `c` of the row the start index names, clamped into the table. -/
theorem gather_table_at {N C A B : ℕ} (hN : 0 < N)
    (wf : GatherDims.WF ⟨2, ![N, C]⟩ ⟨3, ![A, B, 1]⟩ ⟨3, ![A, B, C]⟩ [2] [0] [] [0] [] 2 ![1, C])
    (x : FVec Ideal ⟨2, ![N, C]⟩ .f32) (idx : IVec ⟨3, ![A, B, 1]⟩ 32) (b : Fin A) (n : Fin B) (c : Fin C) :
    Host.gather (tableDims N C A B wf) x idx (ix3 b n c)
      = x (ix2 ⟨min (idx (ix3 b n 0)).toInt.toNat (N - 1), by omega⟩ c) := by
  unfold Host.gather
  congr 1
  funext a
  refine Fin.ext ?_
  show (tableDims N C A B wf).start (ix3 b n c) idx a + (tableDims N C A B wf).batchCoord (ix3 b n c) a
    + (tableDims N C A B wf).offCoord (ix3 b n c) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (tableDims N C A B wf).startIndexMap from List.mem_singleton.mpr rfl)]
    have hsi : (tableDims N C A B wf).siIdx (ix3 b n c) ⟨List.idxOf (0 : Fin 2) (tableDims N C A B wf).startIndexMap,
        List.idxOf_lt_length_iff.2 (List.mem_singleton.mpr rfl)⟩ = ix3 b n 0 := by
      funext e; refine Fin.ext ?_
      match e with
      | ⟨0, _⟩ => rfl
      | ⟨1, _⟩ => rfl
      | ⟨2, _⟩ => rfl
    rw [hsi]
    rfl
  · unfold GatherDims.start GatherDims.offCoord
    rw [dif_neg (show (1 : Fin 2) ∉ (tableDims N C A B wf).startIndexMap from by
        show (1 : Fin 2) ∉ [(0 : Fin 2)]; decide),
      dif_pos ((GatherDims.mem_sKept _ _).mpr ⟨by show (1 : Fin 2) ∉ [(0 : Fin 2)]; decide, List.not_mem_nil⟩)]
    simp only [Nat.zero_add]
    rfl

/-- The dimension numbers of a gather of one entry along the last axis, the two leading axes shared. -/
abbrev entryDims (A B N : ℕ)
    (wf : GatherDims.WF ⟨3, ![A, B, N]⟩ ⟨4, ![A, B, 1, 1]⟩ ⟨3, ![A, B, 1]⟩ [] [2] [0, 1] [2] [0, 1] 3 ![1, 1, 1]) :
    GatherDims ⟨3, ![A, B, N]⟩ ⟨4, ![A, B, 1, 1]⟩ ⟨3, ![A, B, 1]⟩ where
  offsetDims := []
  collapsedSliceDims := [2]
  operandBatchingDims := [0, 1]
  startIndicesBatchingDims := [0, 1]
  startIndexMap := [2]
  indexVectorDim := 3
  sliceSizes := ![1, 1, 1]
  wf := wf

/-- The gather along the last axis read at `(b, n, z)`: the entry the start index names, clamped into the axis. -/
theorem gather_entry_at {A B N : ℕ} (hN : 0 < N)
    (wf : GatherDims.WF ⟨3, ![A, B, N]⟩ ⟨4, ![A, B, 1, 1]⟩ ⟨3, ![A, B, 1]⟩ [] [2] [0, 1] [2] [0, 1] 3 ![1, 1, 1])
    (x : FVec Ideal ⟨3, ![A, B, N]⟩ .f32) (idx : IVec ⟨4, ![A, B, 1, 1]⟩ 32) (b : Fin A) (n : Fin B) (z : Fin 1) :
    Host.gather (entryDims A B N wf) x idx (ix3 b n z)
      = x (ix3 b n ⟨min (idx (ix4 b n 0 0)).toInt.toNat (N - 1), by omega⟩) := by
  obtain rfl : z = 0 := Subsingleton.elim _ _
  unfold Host.gather
  congr 1
  funext a
  refine Fin.ext ?_
  show (entryDims A B N wf).start (ix3 b n 0) idx a + (entryDims A B N wf).batchCoord (ix3 b n 0) a
    + (entryDims A B N wf).offCoord (ix3 b n 0) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  have m0 : (0 : Fin 3) ∈ [(0 : Fin 3), 1] := by decide
  have m1 : (1 : Fin 3) ∈ [(0 : Fin 3), 1] := by decide
  have m2 : (2 : Fin 3) ∉ [(0 : Fin 3), 1] := by decide
  rcases h012 with rfl | rfl | rfl
  · rw [GatherDims.start_batching _ _ _ _ m0,
      GatherDims.offCoord_eq_zero _ _ _ (fun h => ((GatherDims.mem_sKept _ _).mp h).2 m0)]
    simp only [Nat.zero_add, Nat.add_zero]
    unfold GatherDims.batchCoord
    rw [dif_pos m0]
    rfl
  · rw [GatherDims.start_batching _ _ _ _ m1,
      GatherDims.offCoord_eq_zero _ _ _ (fun h => ((GatherDims.mem_sKept _ _).mp h).2 m1)]
    simp only [Nat.zero_add, Nat.add_zero]
    unfold GatherDims.batchCoord
    rw [dif_pos m1]
    rfl
  · rw [GatherDims.batchCoord_eq_zero _ _ _ m2,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (entryDims A B N wf).startIndexMap from List.mem_singleton.mpr rfl)]
    have hsi : (entryDims A B N wf).siIdx (ix3 b n 0) ⟨List.idxOf (2 : Fin 3) (entryDims A B N wf).startIndexMap,
        List.idxOf_lt_length_iff.2 (List.mem_singleton.mpr rfl)⟩ = ix4 b n 0 0 := by
      funext e; refine Fin.ext ?_
      match e with
      | ⟨0, _⟩ => rfl
      | ⟨1, _⟩ => rfl
      | ⟨2, _⟩ => rfl
      | ⟨3, _⟩ => rfl
    rw [hsi]
    rfl

/-- A small number read as a word is not negative. -/
theorem slt_zero_of_lt {k : ℕ} (h : k < 2147483648) : IntOp.cmpi .slt (BitVec.ofNat 32 k) 0#32 = 0#1 := by
  have : ¬ ((k : ℤ) < 0) := by omega
  simp [IntOp.cmpi, BitVec.slt_eq_decide, toInt_ofNat_of_lt h, this]

theorem sge_zero_of_lt {k : ℕ} (h : k < 2147483648) : IntOp.cmpi .sge (BitVec.ofNat 32 k) 0#32 = 1#1 := by
  have : (0 : ℤ) ≤ k := by omega
  simp [IntOp.cmpi, BitVec.sle_eq_decide, toInt_ofNat_of_lt h]

theorem sle_eleven_of_lt {k : ℕ} (h : k < 12) : IntOp.cmpi .sle (BitVec.ofNat 32 k) 11#32 = 1#1 := by
  have : (k : ℤ) ≤ 11 := by omega
  have e : (11#32 : BitVec 32).toInt = 11 := by decide
  simp [IntOp.cmpi, BitVec.sle_eq_decide, toInt_ofNat_of_lt (show k < 2147483648 by omega), e, this]

variable (V : Valuation τ sig (Elt Ideal))

/-- The start index of the row gather is the likeliest class. -/
theorem rv_v60_at (b : Fin 4) (n : Fin 65536) (z : Fin 1) :
    rv_v60 V (ix3 b n z) = BitVec.ofNat 32 (firstMax (clsR V b n)).val := by
  rw [rv_v60_eq, rv_v59_eq, rv_v56_eq, rv_v55_eq, rv_c_eq]
  pointwise [rv_v36_at]
  rw [slt_zero_of_lt (by have := (firstMax (clsR V b n)).isLt; omega)]
  rfl

/-- The mean size of the likeliest class. -/
theorem rv_v61_at (b : Fin 4) (n : Fin 65536) (c : Fin 3) :
    rv_v61 V (ix3 b n c) = sizeRow (fun i j => rv_arg18 V (ix2 i j)) (clsR V b n) c := by
  rw [rv_v61_eq]
  refine (gather_table_at (by norm_num) _ _ _ b n c).trans ?_
  unfold sizeRow
  refine congrArg (fun q => rv_arg18 V (ix2 q c)) (Fin.ext ?_)
  show min (rv_v60 V (ix3 b n 0)).toInt.toNat 2 = _
  have := (firstMax (clsR V b n)).isLt
  rw [rv_v60_at, toInt_ofNat_of_lt (by omega), Int.toNat_natCast]
  omega

theorem rv_v87_at (b : Fin 4) (n : Fin 65536) (z : Fin 1) :
    rv_v87 V (ix3 b n z) = BitVec.ofNat 32 (bin (boxR V b n)).val := by
  rw [rv_v87_eq]
  pointwise [rv_v85_at]

/-- The start index of the gather along the row is the likeliest bin. -/
theorem rv_call4_v5_at (b : Fin 4) (n : Fin 65536) (y z : Fin 1) :
    rv_call4_v5 V (ix4 b n y z) = BitVec.ofNat 32 (bin (boxR V b n)).val := by
  rw [rv_call4_v5_eq, rv_call4_v4_eq, rv_call4_v1_eq, rv_call4_v0_eq, rv_call4_c_eq]
  pointwise [rv_v87_at]
  rw [slt_zero_of_lt (by have := (bin (boxR V b n)).isLt; omega)]
  rfl

/-- The bin is in range, so the gathered entry is kept. -/
theorem rv_call4_v12_at (b : Fin 4) (n : Fin 65536) (z : Fin 1) : rv_call4_v12 V (ix3 b n z) = 1#1 := by
  rw [rv_call4_v12_eq, rv_call4_v11_eq, rv_call4_v7_eq, rv_call4_v10_eq, rv_call4_v6_eq, rv_call4_v9_eq,
    rv_call4_v8_eq, rv_call4_c_1_eq, rv_call4_c_2_eq, rv_call4_c_3_eq]
  pointwise [rv_call4_v5_at]
  have hb := (bin (boxR V b n)).isLt
  rw [sge_zero_of_lt (by omega), sle_eleven_of_lt hb]
  rw [Finset.univ_unique, Finset.fold_singleton]
  rfl

/-- The box row's heading residuals. -/
theorem rv_v86_at (b : Fin 4) (n : Fin 65536) (k : Fin 12) : rv_v86 V (ix3 b n k) = boxR V b n ⟨18 + k.val, by omega⟩ := by
  rw [rv_v86_eq]
  pointwise
  exact rv_v17_at V b n _

/-- The entry of the row at the likeliest bin. -/
theorem rv_v88_at (b : Fin 4) (n : Fin 65536) (z : Fin 1) :
    rv_v88 V (ix3 b n z) = boxR V b n ⟨18 + (bin (boxR V b n)).val, by have := (bin (boxR V b n)).isLt; omega⟩ := by
  rw [rv_v88_eq, rv_call4_v13_eq]
  pointwise [rv_call4_v12_at]
  refine (gather_entry_at (by norm_num) _ _ _ b n z).trans ?_
  rw [rv_v86_at]
  refine congrArg (boxR V b n) (Fin.ext ?_)
  show 18 + min (rv_call4_v5 V (ix4 b n 0 0)).toInt.toNat 11 = _
  have := (bin (boxR V b n)).isLt
  rw [rv_call4_v5_at, toInt_ofNat_of_lt (by omega), Int.toNat_natCast]
  show 18 + min (bin (boxR V b n)).val 11 = 18 + (bin (boxR V b n)).val
  omega

/-- The third result. -/
theorem rv_v101_at (b : Fin 4) (n : Fin 65536) (o : Fin 7) :
    rv_v101 V (ix3 b n o) = decode (boxR V b n) (sizeRow (fun i j => rv_arg18 V (ix2 i j)) (clsR V b n))
      (fun i => rv_arg1 V (ix3 b n i)) o := by
  rw [rv_v101_eq]
  rw [rv_v94_eq, rv_v95_eq, rv_v96_eq, rv_v97_eq, rv_v98_eq, rv_v99_eq, rv_v100_eq]
  rw [rv_v73_eq, rv_v75_eq, rv_v77_eq, rv_v79_eq, rv_v81_eq, rv_v83_eq, rv_v93_eq]
  rw [rv_v72_eq, rv_v74_eq, rv_v76_eq, rv_v78_eq, rv_v80_eq, rv_v82_eq, rv_v92_eq, rv_v91_eq, rv_v90_eq, rv_v89_eq]
  rw [rv_v71_eq, rv_v70_eq, rv_v69_eq, rv_v68_eq, rv_v67_eq, rv_v66_eq, rv_v65_eq, rv_v64_eq, rv_v63_eq, rv_v62_eq]
  rw [rv_v54_eq, rv_v53_eq, rv_v52_eq, rv_v51_eq, rv_v50_eq, rv_v49_eq]
  rw [rv_v48_eq, rv_v47_eq, rv_v46_eq, rv_v45_eq, rv_v44_eq, rv_v43_eq, rv_v42_eq, rv_v41_eq, rv_v40_eq, rv_v39_eq,
    rv_v38_eq, rv_v37_eq]
  pointwise [rv_v17_at, rv_v61_at, rv_v88_at, rv_v85_at]
  have hd : ∀ q : Fin 7, q = o → decode (boxR V b n) (sizeRow (fun i j => rv_arg18 V (ix2 i j)) (clsR V b n))
      (fun i => rv_arg1 V (ix3 b n i)) q = decode (boxR V b n) (sizeRow (fun i j => rv_arg18 V (ix2 i j)) (clsR V b n))
        (fun i => rv_arg1 V (ix3 b n i)) o := fun q hq => congrArg _ hq
  have hs : (FloatOps.sitofp (F := Ideal) .f32 (BitVec.ofNat 32 (bin (boxR V b n)).val) : EReal)
      = (((bin (boxR V b n)).val : ℝ) : EReal) := by
    show (((BitVec.ofNat 32 (bin (boxR V b n)).val).toInt : ℝ) : EReal) = _
    rw [toInt_ofNat_of_lt (by have := (bin (boxR V b n)).isLt; omega)]
    rfl
  rw [rv_cst_eq]
  simp only [hs]
  fin_vals o with hk
  all_goals simp only [hk, Nat.reduceSub, Nat.reduceLT, ↓reduceDIte]
  · exact Eq.trans rfl (hd 0 (Fin.ext hk.symm))
  · exact Eq.trans rfl (hd 1 (Fin.ext hk.symm))
  · exact Eq.trans rfl (hd 2 (Fin.ext hk.symm))
  · exact Eq.trans rfl (hd 3 (Fin.ext hk.symm))
  · exact Eq.trans rfl (hd 4 (Fin.ext hk.symm))
  · exact Eq.trans rfl (hd 5 (Fin.ext hk.symm))
  · exact Eq.trans rfl (hd 6 (Fin.ext hk.symm))

end Cert.ReferenceIdeal.Stages
-- ==== Proof.RefRun.lean ====
/- The reference's program, run: its three results at every entry, its arguments unchanged, every counter at zero. -/
module

public import proofs.«01_k».proof.Proof.RefDecode
public import Idealize.ShloMosaic.Lib.Quiescent

@[expose] public section

set_option maxRecDepth 16384

noncomputable section

open Idealize.ShloMosaic Idealize.ShloMosaic.TcCoe Idealize.ShloMosaic.StableHlo Idealize.SL.Sem

namespace Cert.ReferenceIdeal.Run

open Cert.ReferenceIdeal Cert.ReferenceIdeal.Gen Cert.ReferenceIdeal.Stages Cert.Spec

variable (m : (ℓ : Loc nD τ sig) → Buf (Elt Ideal) ℓ) (ρ : Dev nD → PrngReg)

/-- Every weakly fair execution of the reference ends with its three results at these contents and its arguments as
    launched. -/
theorem run : θ_run defs (onTc (τ := τ) (main (F := Ideal))) ⟨m, fun _ => 0, ρ⟩ fun r => ∀ c : Dev nD,
    r.2.mem ((c.tc : Thread nD τ).loc main_v17) = (fun i : S4x65536x30.Idx => boxR (launchContents m c) (i 0) (i 1) (i 2))
    ∧ r.2.mem ((c.tc : Thread nD τ).loc main_v35) = (fun i : S4x65536x3.Idx => clsR (launchContents m c) (i 0) (i 1) (i 2))
    ∧ r.2.mem ((c.tc : Thread nD τ).loc main_v101) = (fun i : S4x65536x7.Idx => decode (boxR (launchContents m c) (i 0) (i 1))
        (sizeRow (fun k j => rv_arg18 (launchContents m c) (ix2 k j)) (clsR (launchContents m c) (i 0) (i 1)))
        (fun k => rv_arg1 (launchContents m c) (ix3 (i 0) (i 1) k)) (i 2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18) :=
  (θ_run defs _ _).mono (fun r h c => ⟨
    (h c main_v17).trans (funext fun i => (congrArg (rv_v17 (launchContents m c)) (eq_ix3 i)).trans (rv_v17_at _ _ _ _)),
    (h c main_v35).trans (funext fun i => (congrArg (rv_v35 (launchContents m c)) (eq_ix3 i)).trans (rv_v35_at _ _ _ _)),
    (h c main_v101).trans (funext fun i => (congrArg (rv_v101 (launchContents m c)) (eq_ix3 i)).trans (rv_v101_at _ _ _ _)),
    (h c main_arg0).trans (rv_arg0_end _),
    (h c main_arg1).trans (rv_arg1_end _),
    (h c main_arg2).trans (rv_arg2_end _),
    (h c main_arg3).trans (rv_arg3_end _),
    (h c main_arg4).trans (rv_arg4_end _),
    (h c main_arg5).trans (rv_arg5_end _),
    (h c main_arg6).trans (rv_arg6_end _),
    (h c main_arg7).trans (rv_arg7_end _),
    (h c main_arg8).trans (rv_arg8_end _),
    (h c main_arg9).trans (rv_arg9_end _),
    (h c main_arg10).trans (rv_arg10_end _),
    (h c main_arg11).trans (rv_arg11_end _),
    (h c main_arg12).trans (rv_arg12_end _),
    (h c main_arg13).trans (rv_arg13_end _),
    (h c main_arg14).trans (rv_arg14_end _),
    (h c main_arg15).trans (rv_arg15_end _),
    (h c main_arg16).trans (rv_arg16_end _),
    (h c main_arg17).trans (rv_arg17_end _),
    (h c main_arg18).trans (rv_arg18_end _)⟩) (run_fold m ρ)

/-- The reference terminates with its arguments as launched and every counter at zero. -/
theorem frame : θ_run defs (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18))
    ∧ r.2.sem = fun _ => 0 :=
  (θ_run defs _ _).mono (fun r h => ⟨fun c => (h c).2.2.2, sem_eq_zero_of_no_sems (by decide) r.2⟩) (run m ρ)

end Cert.ReferenceIdeal.Run

end
-- ==== Proof.HostPrefix.lean ====
/- What the host operations before the kernel's region leave in its operands, entry by entry: the two hidden layers'
   weights and biases folded with their scales and stacked, the points transposed, the output biases as columns. -/
module

public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.KernelIdeal.HostPrefix

open Cert.KernelIdeal Cert.KernelIdeal.Gen

variable (m : (ℓ : Loc nD τ sig) → Buf (Elt Ideal) ℓ)

/-- Argument 0 as launched. -/
abbrev arg0 (c : Dev nD) : FVec Ideal S4x256x65536 .f32 := m ((c : Thread nD τ).loc main_arg0)
/-- Argument 10 as launched. -/
abbrev arg10 (c : Dev nD) : FVec Ideal S30x128 .f32 := m ((c : Thread nD τ).loc main_arg10)
/-- Argument 16 as launched. -/
abbrev arg16 (c : Dev nD) : FVec Ideal S3x128 .f32 := m ((c : Thread nD τ).loc main_arg16)
/-- Argument 18 as launched. -/
abbrev arg18 (c : Dev nD) : FVec Ideal S3x3 .f32 := m ((c : Thread nD τ).loc main_arg18)
/-- Argument 1 as launched. -/
abbrev arg1 (c : Dev nD) : FVec Ideal S4x65536x3 .f32 := m ((c : Thread nD τ).loc main_arg1)
/-- Argument 6 as launched. -/
abbrev arg6 (c : Dev nD) : FVec Ideal S128x256 .f32 := m ((c : Thread nD τ).loc main_arg6)
/-- Argument 7 as launched. -/
abbrev arg7 (c : Dev nD) : FVec Ideal S128 .f32 := m ((c : Thread nD τ).loc main_arg7)
/-- Argument 8 as launched. -/
abbrev arg8 (c : Dev nD) : FVec Ideal S128 .f32 := m ((c : Thread nD τ).loc main_arg8)
/-- Argument 9 as launched. -/
abbrev arg9 (c : Dev nD) : FVec Ideal S128 .f32 := m ((c : Thread nD τ).loc main_arg9)
/-- Argument 11 as launched. -/
abbrev arg11 (c : Dev nD) : FVec Ideal S30 .f32 := m ((c : Thread nD τ).loc main_arg11)
/-- Argument 12 as launched. -/
abbrev arg12 (c : Dev nD) : FVec Ideal S128x256 .f32 := m ((c : Thread nD τ).loc main_arg12)
/-- Argument 13 as launched. -/
abbrev arg13 (c : Dev nD) : FVec Ideal S128 .f32 := m ((c : Thread nD τ).loc main_arg13)
/-- Argument 14 as launched. -/
abbrev arg14 (c : Dev nD) : FVec Ideal S128 .f32 := m ((c : Thread nD τ).loc main_arg14)
/-- Argument 15 as launched. -/
abbrev arg15 (c : Dev nD) : FVec Ideal S128 .f32 := m ((c : Thread nD τ).loc main_arg15)
/-- Argument 17 as launched. -/
abbrev arg17 (c : Dev nD) : FVec Ideal S3 .f32 := m ((c : Thread nD τ).loc main_arg17)

/-- The stacked weights: the first 128 rows are the box layer's, each scaled by its unit's factor. -/
theorem w1_box (c : Dev nD) (k : Fin 128) (j : Fin 256) :
    (V m c main_v6 : FVec Ideal S256x256 .f32) (ix2 (⟨k.val, by omega⟩ : Fin 256) j) = arg6 m c (ix2 k j) * arg8 m c (ix1 k) := by
  unfold V V0
  simp only [List.flatten_cons, List.flatten_nil, List.append_nil]
  after_results
  pointwise

/-- The stacked weights: the last 128 rows are the class layer's, each scaled by its unit's factor. -/
theorem w1_cls (c : Dev nD) (k : Fin 128) (j : Fin 256) :
    (V m c main_v6 : FVec Ideal S256x256 .f32) (ix2 (⟨128 + k.val, by omega⟩ : Fin 256) j) = arg12 m c (ix2 k j) * arg14 m c (ix1 k) := by
  unfold V V0
  simp only [List.flatten_cons, List.flatten_nil, List.append_nil]
  after_results
  pointwise

/-- The stacked biases: the first 128 are the box layer's, scaled and shifted. -/
theorem b1_box (c : Dev nD) (k : Fin 128) :
    (V m c main_v12 : FVec Ideal S256x1 .f32) (ix2 (⟨k.val, by omega⟩ : Fin 256) 0) = arg7 m c (ix1 k) * arg8 m c (ix1 k) + arg9 m c (ix1 k) := by
  unfold V V0
  simp only [List.flatten_cons, List.flatten_nil, List.append_nil]
  after_results
  pointwise

/-- The stacked biases: the last 128 are the class layer's, scaled and shifted. -/
theorem b1_cls (c : Dev nD) (k : Fin 128) :
    (V m c main_v12 : FVec Ideal S256x1 .f32) (ix2 (⟨128 + k.val, by omega⟩ : Fin 256) 0) = arg13 m c (ix1 k) * arg14 m c (ix1 k) + arg15 m c (ix1 k) := by
  unfold V V0
  simp only [List.flatten_cons, List.flatten_nil, List.append_nil]
  after_results
  pointwise

/-- The box head's biases as a column. -/
theorem b2_box (c : Dev nD) (o : Fin 30) :
    (V m c main_v14 : FVec Ideal S30x1 .f32) (ix2 o 0) = arg11 m c (ix1 o) := by
  unfold V V0
  simp only [List.flatten_cons, List.flatten_nil, List.append_nil]
  after_results
  pointwise

/-- The class head's biases as a column. -/
theorem b2_cls (c : Dev nD) (o : Fin 3) :
    (V m c main_v15 : FVec Ideal S3x1 .f32) (ix2 o 0) = arg17 m c (ix1 o) := by
  unfold V V0
  simp only [List.flatten_cons, List.flatten_nil, List.append_nil]
  after_results
  pointwise

/-- The points, transposed. -/
theorem pts (c : Dev nD) (b : Fin 4) (i : Fin 3) (n : Fin 65536) :
    (V m c main_v13 : FVec Ideal S4x3x65536 .f32) (ix3 b i n) = arg1 m c (ix3 b n i) := by
  unfold V V0
  simp only [List.flatten_cons, List.flatten_nil, List.append_nil]
  after_results
  pointwise

end Cert.KernelIdeal.HostPrefix

end
-- ==== Proof.Folded.lean ====
/- The kernel's folded layers are the problem's layers: with real weights, scales and features, scaling the weights and
   the bias beforehand is scaling the product afterwards. -/
module

public import proofs.«01_k».proof.Proof.Arrays
public import proofs.«01_k».proof.Proof.HostPrefix

@[expose] public section

set_option maxRecDepth 16384

noncomputable section

open Idealize.ShloMosaic Idealize.ShloMosaic.TcCoe Idealize.SL.Sem

namespace Cert.KernelIdeal.Folded

open Cert.KernelIdeal Cert.KernelIdeal.Gen Cert.KernelIdeal.Arrays Cert.KernelIdeal.HostPrefix Cert.Spec

variable (m : (ℓ : Loc nD τ sig) → Buf (Elt Ideal) ℓ)

/-- The box rows in the problem's own form. -/
theorem box_eq (c : Dev nD) (h0 : ∀ i, IsReal (arg0 m c i)) (h6 : ∀ i, IsReal (arg6 m c i)) (h8 : ∀ i, IsReal (arg8 m c i))
    (b : Fin 4) (n : Fin 65536) (o : Fin 30) :
    box m c b n o = head (fun k => hid (fun j => arg6 m c (ix2 k j)) (arg7 m c (ix1 k)) (arg8 m c (ix1 k)) (arg9 m c (ix1 k))
        fun j => arg0 m c (ix3 b j n)) (fun k => arg10 m c (ix2 o k)) (arg11 m c (ix1 o)) := by
  unfold box boxC
  rw [b2_box, V_main_arg0, V_main_arg10]
  refine congrArg (fun h => head h _ _) (funext fun k => ?_)
  rw [b1_box, funext fun j => w1_box m c k j]
  exact hidF_eq_hid (fun j => h6 _) (fun j => h0 _) (h8 _) _ _

/-- The class rows in the problem's own form. -/
theorem cls_eq (c : Dev nD) (h0 : ∀ i, IsReal (arg0 m c i)) (h12 : ∀ i, IsReal (arg12 m c i)) (h14 : ∀ i, IsReal (arg14 m c i))
    (b : Fin 4) (n : Fin 65536) (o : Fin 3) :
    cls m c b n o = head (fun k => hid (fun j => arg12 m c (ix2 k j)) (arg13 m c (ix1 k)) (arg14 m c (ix1 k)) (arg15 m c (ix1 k))
        fun j => arg0 m c (ix3 b j n)) (fun k => arg16 m c (ix2 o k)) (arg17 m c (ix1 o)) := by
  unfold cls clsC
  rw [b2_cls, V_main_arg0, V_main_arg16]
  refine congrArg (fun h => head h _ _) (funext fun k => ?_)
  rw [b1_cls, funext fun j => w1_cls m c k j]
  exact hidF_eq_hid (fun j => h12 _) (fun j => h0 _) (h14 _) _ _

/-- The decoded rows over the launched size table and points. -/
theorem dec_eq (c : Dev nD) (b : Fin 4) (n : Fin 65536) (o : Fin 7) :
    dec m c b n o = decode (box m c b n) (sizeRow (fun i j => arg18 m c (ix2 i j)) (cls m c b n)) (fun i => arg1 m c (ix3 b n i)) o := by
  unfold dec
  rw [V_main_arg18, funext fun i => pts m c b i n]

end Cert.KernelIdeal.Folded

end
-- ==== Proof.Equation.lean ====
/- The equation: over equal arguments, of which those that the folding multiplies are real, kernel and reference compute
   the same three rows at every point. -/
module

public import proofs.«01_k».proof.Proof.Folded
public import proofs.«01_k».proof.Proof.RefRun

@[expose] public section

set_option maxRecDepth 16384

noncomputable section

open Idealize.ShloMosaic Idealize.ShloMosaic.TcCoe Idealize.ShloMosaic.StableHlo Idealize.SL.Sem

namespace Cert.Equation

open Cert.Spec

variable (m : (ℓ : Loc Cert.KernelIdeal.nD Cert.KernelIdeal.τ Cert.KernelIdeal.sig) → Buf (Elt Ideal) ℓ)
  (c : Dev Cert.KernelIdeal.nD) (V : Valuation Cert.ReferenceIdeal.τ Cert.ReferenceIdeal.sig (Elt Ideal))

/-- The box rows agree. -/
theorem box (h0 : ∀ i, IsReal (Cert.KernelIdeal.HostPrefix.arg0 m c i)) (h6 : ∀ i, IsReal (Cert.KernelIdeal.HostPrefix.arg6 m c i))
    (h8 : ∀ i, IsReal (Cert.KernelIdeal.HostPrefix.arg8 m c i))
    (e0 : Cert.ReferenceIdeal.Stages.rv_arg0 V = Cert.KernelIdeal.HostPrefix.arg0 m c)
    (e6 : Cert.ReferenceIdeal.Stages.rv_arg6 V = Cert.KernelIdeal.HostPrefix.arg6 m c)
    (e7 : Cert.ReferenceIdeal.Stages.rv_arg7 V = Cert.KernelIdeal.HostPrefix.arg7 m c)
    (e8 : Cert.ReferenceIdeal.Stages.rv_arg8 V = Cert.KernelIdeal.HostPrefix.arg8 m c)
    (e9 : Cert.ReferenceIdeal.Stages.rv_arg9 V = Cert.KernelIdeal.HostPrefix.arg9 m c)
    (e10 : Cert.ReferenceIdeal.Stages.rv_arg10 V = Cert.KernelIdeal.HostPrefix.arg10 m c)
    (e11 : Cert.ReferenceIdeal.Stages.rv_arg11 V = Cert.KernelIdeal.HostPrefix.arg11 m c)
    (b : Fin 4) (n : Fin 65536) :
    Cert.ReferenceIdeal.Stages.boxR V b n = Cert.KernelIdeal.Arrays.box m c b n := by
  funext o
  rw [Cert.KernelIdeal.Folded.box_eq m c h0 h6 h8]
  unfold Cert.ReferenceIdeal.Stages.boxR
  rw [e0, e6, e7, e8, e9, e10, e11]

/-- The class rows agree. -/
theorem cls (h0 : ∀ i, IsReal (Cert.KernelIdeal.HostPrefix.arg0 m c i)) (h12 : ∀ i, IsReal (Cert.KernelIdeal.HostPrefix.arg12 m c i))
    (h14 : ∀ i, IsReal (Cert.KernelIdeal.HostPrefix.arg14 m c i))
    (e0 : Cert.ReferenceIdeal.Stages.rv_arg0 V = Cert.KernelIdeal.HostPrefix.arg0 m c)
    (e12 : Cert.ReferenceIdeal.Stages.rv_arg12 V = Cert.KernelIdeal.HostPrefix.arg12 m c)
    (e13 : Cert.ReferenceIdeal.Stages.rv_arg13 V = Cert.KernelIdeal.HostPrefix.arg13 m c)
    (e14 : Cert.ReferenceIdeal.Stages.rv_arg14 V = Cert.KernelIdeal.HostPrefix.arg14 m c)
    (e15 : Cert.ReferenceIdeal.Stages.rv_arg15 V = Cert.KernelIdeal.HostPrefix.arg15 m c)
    (e16 : Cert.ReferenceIdeal.Stages.rv_arg16 V = Cert.KernelIdeal.HostPrefix.arg16 m c)
    (e17 : Cert.ReferenceIdeal.Stages.rv_arg17 V = Cert.KernelIdeal.HostPrefix.arg17 m c)
    (b : Fin 4) (n : Fin 65536) :
    Cert.ReferenceIdeal.Stages.clsR V b n = Cert.KernelIdeal.Arrays.cls m c b n := by
  funext o
  rw [Cert.KernelIdeal.Folded.cls_eq m c h0 h12 h14]
  unfold Cert.ReferenceIdeal.Stages.clsR
  rw [e0, e12, e13, e14, e15, e16, e17]

/-- The decoded rows agree, given that the box rows and the class rows do. -/
theorem dec (b : Fin 4) (n : Fin 65536)
    (hb : Cert.ReferenceIdeal.Stages.boxR V b n = Cert.KernelIdeal.Arrays.box m c b n)
    (hc : Cert.ReferenceIdeal.Stages.clsR V b n = Cert.KernelIdeal.Arrays.cls m c b n)
    (e1 : Cert.ReferenceIdeal.Stages.rv_arg1 V = Cert.KernelIdeal.HostPrefix.arg1 m c)
    (e18 : Cert.ReferenceIdeal.Stages.rv_arg18 V = Cert.KernelIdeal.HostPrefix.arg18 m c) :
    decode (Cert.ReferenceIdeal.Stages.boxR V b n)
        (sizeRow (fun k j => Cert.ReferenceIdeal.Stages.rv_arg18 V (ix2 k j)) (Cert.ReferenceIdeal.Stages.clsR V b n))
        (fun k => Cert.ReferenceIdeal.Stages.rv_arg1 V (ix3 b n k))
      = Cert.KernelIdeal.Arrays.dec m c b n := by
  funext o
  rw [Cert.KernelIdeal.Folded.dec_eq, hb, hc, e1, e18]

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Pre
public import proofs.«01_k».proof.Proof.KernelRun
public import proofs.«01_k».proof.Proof.RefRun
public import proofs.«01_k».proof.Proof.Equation
public import Idealize.ShloMosaic.Adequacy
public import Idealize.ShloMosaic.Init

@[expose] public section

set_option maxRecDepth 16384

noncomputable section

namespace Cert.Proof

open Idealize.ShloMosaic Idealize.SL.Sem Cert.Kernel

/-- The precondition's masks, read: the features, the two first layers' weights and their scales are real. -/
theorem reals (m : (ℓ : Loc Cert.KernelIdeal.nD Cert.KernelIdeal.τ Cert.KernelIdeal.sig) → Buf (Elt Ideal) ℓ)
    (h : Cert.Pre_KernelIdeal_finite (hPre_finite := Cert.Pre_finite.facts) m) (c : Dev Cert.KernelIdeal.nD) :
    (∀ i, Cert.Spec.IsReal (Cert.KernelIdeal.HostPrefix.arg0 m c i)) ∧ (∀ i, Cert.Spec.IsReal (Cert.KernelIdeal.HostPrefix.arg6 m c i))
    ∧ (∀ i, Cert.Spec.IsReal (Cert.KernelIdeal.HostPrefix.arg8 m c i)) ∧ (∀ i, Cert.Spec.IsReal (Cert.KernelIdeal.HostPrefix.arg12 m c i))
    ∧ (∀ i, Cert.Spec.IsReal (Cert.KernelIdeal.HostPrefix.arg14 m c i)) := by
  obtain ⟨h0, h6, h8, h12, h14⟩ := h c
  exact ⟨fun i => Cert.Pre_finite.real_of_mask _ Cert.Pre_finite.facts.bcast_S_S4x256x65536 i (congrFun h0 i),
    fun i => Cert.Pre_finite.real_of_mask _ Cert.Pre_finite.facts.bcast_S_S128x256 i (congrFun h6 i),
    fun i => Cert.Pre_finite.real_of_mask _ Cert.Pre_finite.facts.bcast_S_S128 i (congrFun h8 i),
    fun i => Cert.Pre_finite.real_of_mask _ Cert.Pre_finite.facts.bcast_S_S128x256 i (congrFun h12 i),
    fun i => Cert.Pre_finite.real_of_mask _ Cert.Pre_finite.facts.bcast_S_S128 i (congrFun h14 i)⟩

/-- Kernel and reference end with the same three results. -/
theorem same_results : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hargs
  refine ⟨_, _, _, Cert.KernelIdeal.Run.run m g, ?_⟩
  refine (θ_run Cert.ReferenceIdeal.defs _ _).mono (fun r h c => ?_) (Cert.ReferenceIdeal.Run.run m' g')
  obtain ⟨r0, r1, r2, hrest⟩ := h c
  obtain ⟨h0, h6, h8, h12, h14⟩ := reals m hpre c
  obtain ⟨e0, e1, e2, e3, e4, e5, e6, e7, e8, e9, e10, e11, e12, e13, e14, e15, e16, e17, e18⟩ := hargs c
  have hb := Cert.Equation.box m c (StableHlo.launchContents m' c) h0 h6 h8 e0 e6 e7 e8 e9 e10 e11
  have hc := Cert.Equation.cls m c (StableHlo.launchContents m' c) h0 h12 h14 e0 e12 e13 e14 e15 e16 e17
  refine ⟨r0.trans (funext fun i => congrFun (hb (i 0) (i 1)) (i 2)), r1.trans (funext fun i => congrFun (hc (i 0) (i 1)) (i 2)),
    r2.trans (funext fun i => congrFun (Cert.Equation.dec m c _ (i 0) (i 1) (hb _ _) (hc _ _) e1 e18) (i 2)), hrest⟩

/-- Everything claimed: the frames, the ideal program, and the equality of the three results. -/
theorem claim : Cert.Claim := ⟨Cert.Kernel.Gen.facts, Cert.KernelIdeal.Gen.facts, Cert.ReferenceIdeal.Gen.facts, Cert.Pre_finite.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Run.frame m ρ, fun m ρ _ => Cert.ReferenceIdeal.Run.frame m ρ, trivial, same_results⟩

end Cert.Proof

end
